-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "r118" .f32 0x3C0AD8F3#32 ((118⁻¹ : ℝ) : EReal)
  ∧ IdealRules.named_const.Statement Cert.KernelIdeal.κ "r5" .f32 0x3E4CCCCD#32 ((5⁻¹ : ℝ) : EReal)
  ∧ IdealRules.named_const.Statement Cert.KernelIdeal.κ "r3" .f32 0x3EAAAAAB#32 ((3⁻¹ : ℝ) : EReal)
  ∧ IdealRules.named_const.Statement Cert.KernelIdeal.κ "r21" .f32 0x3D430C31#32 ((21⁻¹ : ℝ) : EReal)
  ∧ IdealRules.named_const.Statement Cert.KernelIdeal.κ "r18" .f32 0x3D638E39#32 ((18⁻¹ : ℝ) : EReal)
  ∧ IdealRules.named_const.Statement Cert.KernelIdeal.κ "r9" .f32 0x3DE38E39#32 ((9⁻¹ : ℝ) : EReal)
  ∧ IdealRules.named_const.Statement Cert.KernelIdeal.κ "r20" .f32 0x3D4CCCCD#32 ((20⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x1000 : Shape := ⟨2, ![2048, 1000]⟩
abbrev S1000 : Shape := ⟨1, ![1000]⟩
abbrev S512 : Shape := ⟨1, ![512]⟩
abbrev S1x512 : Shape := ⟨2, ![1, 512]⟩
abbrev S512x256 : Shape := ⟨2, ![512, 256]⟩
abbrev S2048x512 : Shape := ⟨2, ![2048, 512]⟩
abbrev S256x512 : Shape := ⟨2, ![256, 512]⟩
abbrev S16x256 : Shape := ⟨2, ![16, 256]⟩
abbrev S128x16 : Shape := ⟨2, ![128, 16]⟩
abbrev S8x16 : Shape := ⟨2, ![8, 16]⟩
abbrev S_ : Shape := ⟨0, ![]⟩
abbrev S16 : Shape := ⟨1, ![16]⟩
abbrev S1x16 : Shape := ⟨2, ![1, 16]⟩
abbrev S16x16 : Shape := ⟨2, ![16, 16]⟩
abbrev S24x16 : Shape := ⟨2, ![24, 16]⟩
abbrev S40x16 : Shape := ⟨2, ![40, 16]⟩
abbrev S1x256 : Shape := ⟨2, ![1, 256]⟩
abbrev S8x256 : Shape := ⟨2, ![8, 256]⟩
abbrev S9x256 : Shape := ⟨2, ![9, 256]⟩
abbrev S256x9 : Shape := ⟨2, ![256, 9]⟩

abbrev nBuf : Table → Nat
  | .hbm => 11
  | .local .tc .vmem => 4
  | .local .scVector .vmem => 2
  | _ => 0

abbrev bufTy : (tb : Table) → Fin (nBuf tb) → BufTy
  | .hbm, ⟨0, _⟩ => ⟨S256x2048, .f32⟩
  | .hbm, ⟨1, _⟩ => ⟨S2048x1000, .f32⟩
  | .hbm, ⟨2, _⟩ => ⟨S1000, .f32⟩
  | .hbm, ⟨3, _⟩ => ⟨S512, .f32⟩
  | .hbm, ⟨4, _⟩ => ⟨S1x512, .f32⟩
  | .hbm, ⟨5, _⟩ => ⟨S512x256, .f32⟩
  | .hbm, ⟨6, _⟩ => ⟨S16x256, .f32⟩
  | .hbm, ⟨7, _⟩ => ⟨S1x256, .f32⟩
  | .hbm, ⟨8, _⟩ => ⟨S8x256, .f32⟩
  | .hbm, ⟨9, _⟩ => ⟨S9x256, .f32⟩
  | .hbm, ⟨10, _⟩ => ⟨S256x9, .f32⟩
  | .local .tc .vmem, ⟨0, _⟩ => ⟨S256x2048, .f32⟩
  | .local .tc .vmem, ⟨1, _⟩ => ⟨S2048x512, .f32⟩
  | .local .tc .vmem, ⟨2, _⟩ => ⟨S1x512, .f32⟩
  | .local .tc .vmem, ⟨3, _⟩ => ⟨S512x256, .f32⟩
  | .local .scVector .vmem, ⟨0, _⟩ => ⟨S128x16, .f32⟩
  | .local .scVector .vmem, ⟨1, _⟩ => ⟨S8x16, .f32⟩
  | _, _ => ⟨S256x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v2_scv : Ref sig .scVector := ⟨.hbm, 5, rfl⟩
abbrev main_v3_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k1_off1 (i : grid1.Coords) : Fin 2 → Nat :=
  let c144_i32_r0 : BitVec 32 := 144#32
  let arg1 : BitVec 32 := BitVec.ofNat 32 (i 1).val
  let c16_i32 : BitVec 32 := 16#32
  let v0 : BitVec 32 := Scalar.muli arg1 c16_i32
  ![144, v0.toNat]
def k1_off2 (i : grid1.Coords) : Fin 2 → Nat :=
  let c0_i32_128_r1 : BitVec 32 := 0#32
  let arg1 : BitVec 32 := BitVec.ofNat 32 (i 1).val
  let c16_i32 : BitVec 32 := 16#32
  let v0 : BitVec 32 := Scalar.muli arg1 c16_i32
  ![0, v0.toNat]
def k1_cond2 (i : grid1.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k1_off3 (i : grid1.Coords) : Fin 2 → Nat :=
  let c24_i32_116_r2 : BitVec 32 := 24#32
  let arg1 : BitVec 32 := BitVec.ofNat 32 (i 1).val
  let c16_i32 : BitVec 32 := 16#32
  let v0 : BitVec 32 := Scalar.muli arg1 c16_i32
  ![24, v0.toNat]
def k1_off4 (i : grid1.Coords) : Fin 2 → Nat :=
  let c80_i32_116_r3 : BitVec 32 := 80#32
  let arg1 : BitVec 32 := BitVec.ofNat 32 (i 1).val
  let c16_i32 : BitVec 32 := 16#32
  let v0 : BitVec 32 := Scalar.muli arg1 c16_i32
  ![80, v0.toNat]
def k1_off5 (i : grid1.Coords) : Fin 2 → Nat :=
  let c112_i32_r4 : BitVec 32 := 112#32
  let arg1 : BitVec 32 := BitVec.ofNat 32 (i 1).val
  let c16_i32 : BitVec 32 := 16#32
  let v0 : BitVec 32 := Scalar.muli arg1 c16_i32
  ![112, v0.toNat]
def k1_off6 (i : grid1.Coords) : Fin 2 → Nat :=
  let c280_i32_r5 : BitVec 32 := 280#32
  let arg1 : BitVec 32 := BitVec.ofNat 32 (i 1).val
  let c16_i32 : BitVec 32 := 16#32
  let v0 : BitVec 32 := Scalar.muli arg1 c16_i32
  ![280, v0.toNat]
def k1_off7 (i : grid1.Coords) : Fin 2 → Nat :=
  let c296_i32_r6 : BitVec 32 := 296#32
  let arg1 : BitVec 32 := BitVec.ofNat 32 (i 1).val
  let c16_i32 : BitVec 32 := 16#32
  let v0 : BitVec 32 := Scalar.muli arg1 c16_i32
  ![296, v0.toNat]
def k1_off8 (i : grid1.Coords) : Fin 2 → Nat :=
  let c360_i32_r7 : BitVec 32 := 360#32
  let arg1 : BitVec 32 := BitVec.ofNat 32 (i 1).val
  let c16_i32 : BitVec 32 := 16#32
  let v0 : BitVec 32 := Scalar.muli arg1 c16_i32
  ![360, v0.toNat]
def k1_off9 (i : grid1.Coords) : Fin 2 → Nat :=
  let c8_i32_116_r8 : BitVec 32 := 8#32
  let arg1 : BitVec 32 := BitVec.ofNat 32 (i 1).val
  let c16_i32 : BitVec 32 := 16#32
  let v0 : BitVec 32 := Scalar.muli arg1 c16_i32
  ![8, v0.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "r118" => some ((118⁻¹ : ℝ) : EReal)
  | "r18" => some ((18⁻¹ : ℝ) : EReal)
  | "r20" => some ((20⁻¹ : ℝ) : EReal)
  | "r21" => some ((21⁻¹ : ℝ) : EReal)
  | "r3" => some ((3⁻¹ : ℝ) : EReal)
  | "r5" => some ((5⁻¹ : ℝ) : EReal)
  | "r9" => some ((9⁻¹ : ℝ) : EReal)
  | _ => none
-- ==== ReferenceIdeal.lean ====
abbrev S256x2048 : Shape := ⟨2, ![256, 2048]⟩
abbrev S2048x1000 : Shape := ⟨2, ![2048, 1000]⟩
abbrev S1000 : Shape := ⟨1, ![1000]⟩
abbrev S256x1000 : Shape := ⟨2, ![256, 1000]⟩
abbrev S1x1000 : Shape := ⟨2, ![1, 1000]⟩
abbrev S256x118 : Shape := ⟨2, ![256, 118]⟩
abbrev S_ : Shape := ⟨0, ![]⟩
abbrev S256 : Shape := ⟨1, ![256]⟩
abbrev S256x5 : Shape := ⟨2, ![256, 5]⟩
abbrev S256x3 : Shape := ⟨2, ![256, 3]⟩
abbrev S256x21 : Shape := ⟨2, ![256, 21]⟩
abbrev S256x18 : Shape := ⟨2, ![256, 18]⟩
abbrev S256x9 : Shape := ⟨2, ![256, 9]⟩
abbrev S256x4 : Shape := ⟨2, ![256, 4]⟩
abbrev S256x20 : Shape := ⟨2, ![256, 20]⟩
abbrev S256x1 : Shape := ⟨2, ![256, 1]⟩

abbrev nBuf : Space → Nat
  | .hbm => 71
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1000, .f32⟩
  | .hbm, ⟨2, _⟩ => ⟨S1000, .f32⟩
  | .hbm, ⟨3, _⟩ => ⟨S256x1000, .f32⟩
  | .hbm, ⟨4, _⟩ => ⟨S1x1000, .f32⟩
  | .hbm, ⟨5, _⟩ => ⟨S256x1000, .f32⟩
  | .hbm, ⟨6, _⟩ => ⟨S256x1000, .f32⟩
  | .hbm, ⟨7, _⟩ => ⟨S256x118, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256x5, .f32⟩
  | .hbm, ⟨14, _⟩ => ⟨S_, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256x3, .f32⟩
  | .hbm, ⟨20, _⟩ => ⟨S_, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256x5, .f32⟩
  | .hbm, ⟨26, _⟩ => ⟨S_, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256x21, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256x18, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S256x9, .f32⟩
  | .hbm, ⟨44, _⟩ => ⟨S_, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256x4, .f32⟩
  | .hbm, ⟨50, _⟩ => ⟨S_, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256x20, .f32⟩
  | .hbm, ⟨56, _⟩ => ⟨S_, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S256x1, .f32⟩
  | .hbm, ⟨62, _⟩ => ⟨S256x1, .f32⟩
  | .hbm, ⟨63, _⟩ => ⟨S256x1, .f32⟩
  | .hbm, ⟨64, _⟩ => ⟨S256x1, .f32⟩
  | .hbm, ⟨65, _⟩ => ⟨S256x1, .f32⟩
  | .hbm, ⟨66, _⟩ => ⟨S256x1, .f32⟩
  | .hbm, ⟨67, _⟩ => ⟨S256x1, .f32⟩
  | .hbm, ⟨68, _⟩ => ⟨S256x1, .f32⟩
  | .hbm, ⟨69, _⟩ => ⟨S256x1, .f32⟩
  | .hbm, ⟨70, _⟩ => ⟨S256x9, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_11 : Ref sig .tc := ⟨.hbm, 44, rfl⟩
abbrev main_v29 : Ref sig .tc := ⟨.hbm, 45, rfl⟩
abbrev main_cst_12 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_13 : Ref sig .tc := ⟨.hbm, 50, rfl⟩
abbrev main_v33 : Ref sig .tc := ⟨.hbm, 51, rfl⟩
abbrev main_cst_14 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_15 : Ref sig .tc := ⟨.hbm, 56, rfl⟩
abbrev main_v37 : Ref sig .tc := ⟨.hbm, 57, rfl⟩
abbrev main_cst_16 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Proof.Setup.lean ====
/-
  The launch's vocabulary for the kernel's proof: the program as the launch theorem sees it (one TensorCore
  pipeline and one SparseCore call on two SparseCores of sixteen tiles each), the ghost state, the two arrays the
  SparseCore call works on, and the values it computes from the table of logits.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.Group

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on sixteen tiles of each SparseCore. -/
theorem nSub_zero : (K (F := F)).nSub 0 = 16 := rfl
/-- The call runs on two SparseCores. -/
theorem nCore_zero : (K (F := F)).nCore 0 = 2 := rfl

/-- The launch's semaphores are distinct and unscoped, and no array of a SparseCore's own is shared with its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
omit [FloatOps F] [Named F] in
/-- The pipeline's rounds lie in the ghost state. -/
instance EP_landsIn : (EP : Emb UP 𝕄).LandsIn (upEmb : UEmb _ 𝕄) := by unfold EP; infer_instance

/-! ## The two arrays of the SparseCore call -/

/-- The table of logits, a row per class, and the array the tiles write their means to. -/
abbrev lLoc (d : Dev nD) : Loc nD τ sig := (SparseCore.T d).loc main_v2
abbrev oLoc (d : Dev nD) : Loc nD τ sig := (SparseCore.T d).loc main_v3

abbrev lV : Memref sig .scVector .hbm S512x256 .f32 := Memref.whole main_v2_scv
abbrev oV : Memref sig .scVector .hbm S16x256 .f32 := Memref.whole main_v3_scv
abbrev bV : Memref sig .scVector .vmem S128x16 .f32 := Memref.whole cc1_scratch0
abbrev rV : Memref sig .scVector .vmem S8x16 .f32 := Memref.whole cc1_scratch1

/-! ## What a tile computes, per column of the table -/

section Values

/-- The sum of `g a, g (a + k), g (a + 2 k), …`, `n` terms, added one after the other onto zero. -/
def runSum (g : ℕ → F .f32) (a k : ℕ) : ℕ → F .f32
  | 0 => FloatOps.ofBits .f32 0x00000000#32
  | n + 1 => FloatOps.addf (runSum g a k n) (g (a + k * n))

/-- The mean of the large group: its four interleaved sums added up, times the reciprocal of its size. -/
def bigMean (g : ℕ → F .f32) : F .f32 :=
  FloatOps.mulf (FloatOps.addf (FloatOps.addf (runSum g 152 4 30) (runSum g 153 4 29))
    (FloatOps.addf (runSum g 154 4 29) (runSum g 151 4 30))) (Named.named κ "r118" 0x3C0AD8F3#32)

/-- The mean of a small group: one sum of its `n` consecutive classes from `a`, times the reciprocal of its size. -/
def smallMean (g : ℕ → F .f32) (a n : ℕ) (c : F .f32) : F .f32 := FloatOps.mulf (runSum g a 1 n) c

/-- What row `r` of the written array holds in a column whose logits are `g` (rows 1 to 7 are not read). -/
def outRow (g : ℕ → F .f32) : ℕ → F .f32
  | 8 => smallMean g 281 5 (Named.named κ "r5" 0x3E4CCCCD#32)
  | 9 => smallMean g 30 3 (Named.named κ "r3" 0x3EAAAAAB#32)
  | 10 => smallMean g 33 5 (Named.named κ "r5" 0x3E4CCCCD#32)
  | 11 => smallMean g 80 21 (Named.named κ "r21" 0x3D430C31#32)
  | 12 => smallMean g 365 18 (Named.named κ "r18" 0x3D638E39#32)
  | 13 => smallMean g 389 9 (Named.named κ "r9" 0x3DE38E39#32)
  | 14 => smallMean g 118 4 (FloatOps.ofBits .f32 0x3E800000#32)
  | 15 => smallMean g 300 20 (Named.named κ "r20" 0x3D4CCCCD#32)
  | _ => bigMean g

/-- Column `c` of a table of logits, by the class's number (zero past the table's last row). -/
def colAt (A : S512x256.Idx → F .f32) (c : Fin 256) (r : ℕ) : F .f32 :=
  if h : r < 512 then A (ix2 ⟨r, h⟩ c) else FloatOps.ofBits .f32 0x00000000#32

/-- What the written array holds at `j`, over the table `A`. -/
def outAt (A : S512x256.Idx → F .f32) (j : S16x256.Idx) : F .f32 := outRow (colAt A (j 1)) (j 0).val

end Values

end Cert.Proof.Group

end
-- ==== Proof.Blocks.lean ====
/-
  Reading the blocks a tile copies and loads: a column block of the table of logits, a row of a landed buffer, and the
  lanes of the vectors the tile computes with.
-/
module

public import proofs.«01_k».proof.Proof.Setup
public import Idealize.ShloMosaic.Lib.WritesUnit
public import Idealize.ShloMosaic.Lib.Pipeline.Value

@[expose] public section

noncomputable section

namespace Cert.Proof.Group

open Cert.KernelIdeal Cert.KernelIdeal.Gen

open Idealize.ShloMosaic Idealize.ShloMosaic.ValueIdx
open Idealize.ShloMosaic.SparseCore (S V T)

variable {F : FTy → Type} [FloatOps F] [Named F]

/-- A copy that changes no element carries the values themselves. -/
theorem same_apply {s : Shape} {e : EltTy} (x : s.Idx → Elt F e) : (ReadAs.same (Val := Elt F)).apply x = x := rfl

/-- A sum of vectors, lane by lane. -/
theorem addf_lane {s : Shape} (x y : FVec F s .f32) (j : s.Idx) : addf x y j = FloatOps.addf (x j) (y j) := rfl
/-- A product of vectors, lane by lane. -/
theorem mulf_lane {s : Shape} (x y : FVec F s .f32) (j : s.Idx) : mulf x y j = FloatOps.mulf (x j) (y j) := rfl
/-- A broadcast scalar, at any lane. -/
theorem broadcast_lane {s : Shape} (c : F .f32) (j : s.Idx) : broadcast s c j = c := rfl

/-- The column of the table that lane `y` of the tile at `L` works on. -/
def lane (L : grid1.Coords) (y : Fin 16) : Fin 256 :=
  ⟨16 * (L 1).val + y.val, by have h1 : (L 1).val < 16 := (L 1).isLt; omega⟩

/-- A block of `n` rows from row `a` of the table, at the tile's sixteen columns, read at a row and a lane. -/
theorem read_block (L : grid1.Coords) (A : S512x256.Idx → F .f32) {off : Fin 2 → ℕ} {n a : ℕ}
    (inb : ∀ b : Fin 2, off b + (![n, 16] : Fin 2 → ℕ) b ≤ S512x256.size b)
    (hoff : off = ![a, 16 * (L 1).val]) (h) (r : Fin n) (y : Fin 16) :
    View.read (Elt F) ((lV).slice (Rect.unit (s := S512x256) off ![n, 16] inb) h).view A (ix2 r y)
      = colAt A (lane L y) (a + r.val) := by
  subst hoff
  have h0 : a + n ≤ 512 := inb 0
  have hr : a + r.val < 512 := by have := r.isLt; omega
  rw [View.read_apply, colAt, dif_pos hr]
  refine congrArg A (funext fun b => Fin.ext ?_)
  match b with
  | ⟨0, _⟩ => show a + 1 * r.val = a + r.val; omega
  | ⟨1, _⟩ => show 16 * (L 1).val + 1 * y.val = 16 * (L 1).val + y.val; omega

/-- A row of a `128 × 16` buffer, loaded as one vector, at a lane. -/
theorem row_lane (f : (bV).view.ty.Contents (Elt F)) (r : ℕ) (inb : ∀ b : Fin 2, (![r, 0] : Fin 2 → ℕ) b + S1x16.size b ≤ S128x16.size b)
    (hc : S1x16.ShapeCasts S16) (j : S16.Idx) (hr : r < 128) :
    shapeCast S16 ((bV).view.readAt (Elt F) (Rect.unit (s := S128x16) ![r, 0] S1x16.size inb).toLoadRect f) hc j
      = (bV).view.read (Elt F) f (ix2 ⟨r, hr⟩ (j 0)) := by
  refine (shapeCast_dropUnit_apply ![16] _ hc j).trans ?_
  rw [View.readAt_apply]
  refine congrArg _ (funext fun b => Fin.ext ?_)
  match b with
  | ⟨0, _⟩ => show r + 1 * 0 = r; omega
  | ⟨1, _⟩ => show 0 + 1 * (j 0).val = (j 0).val; omega

/-- A row of a `128 × 16` buffer that the tile has filled by its copies, loaded as one vector, at a lane. -/
theorem cov_lane (P : List (View.Piece (Elt F) S128x16 .f32)) (r : ℕ)
    (inb : ∀ b : Fin 2, (![r, 0] : Fin 2 → ℕ) b + S1x16.size b ≤ S128x16.size b) (hc : S1x16.ShapeCasts S16) (j : S16.Idx) (hr : r < 128) :
    shapeCast S16 ((bV).view.readCov P (Rect.unit (s := S128x16) ![r, 0] S1x16.size inb).toLoadRect) hc j
      = (bV).view.read (Elt F) ((bV).view.writes (Elt F) (bV).view.junk P) (ix2 ⟨r, hr⟩ (j 0)) :=
  row_lane _ r inb hc j hr

/-- The rows `o, …, o + n - 1` of the buffer, filled from the table's rows from `a` at the tile's columns: what a row of the
buffer holds afterwards. -/
theorem landed (L : grid1.Coords) (A : S512x256.Idx → F .f32) (f : (bV).view.ty.Contents (Elt F)) {off : Fin 2 → ℕ} {n a o : ℕ}
    (P : List (View.Piece (Elt F) S128x16 .f32))
    (inb : ∀ b : Fin 2, off b + (![n, 16] : Fin 2 → ℕ) b ≤ S512x256.size b)
    (inb' : ∀ b : Fin 2, (![o, 0] : Fin 2 → ℕ) b + (![n, 16] : Fin 2 → ℕ) b ≤ S128x16.size b)
    (hoff : off = ![a, 16 * (L 1).val]) (h) (r : Fin 128) (y : Fin 16) :
    (bV).view.read (Elt F) ((bV).view.writes (Elt F) f (⟨Rect.unit (s := S128x16) ![o, 0] ![n, 16] inb',
        View.read (Elt F) ((lV).slice (Rect.unit (s := S512x256) off ![n, 16] inb) h).view A⟩ :: P)) (ix2 r y)
      = if o ≤ r.val ∧ r.val < o + n then colAt A (lane L y) (a + (r.val - o))
        else (bV).view.read (Elt F) ((bV).view.writes (Elt F) f P) (ix2 r y) := by
  by_cases hr : o ≤ r.val ∧ r.val < o + n
  · rw [if_pos hr]
    refine (View.read_writes_cons_rows_of_mem _ _ inb' _ P (ix2 r y) (ix2 ⟨r.val - o, by omega⟩ y) rfl ?_ rfl).trans ?_
    · show r.val = o + (r.val - o); omega
    · exact read_block L A inb hoff h _ y
  · rw [if_neg hr]
    exact View.read_writes_cons_rows_of_not_mem _ _ inb' _ P (ix2 r y) rfl rfl (by show r.val < o ∨ o + n ≤ r.val; omega)

/-- A vector stored as row `r` of the tile's `8 × 16` results: what row `r'` holds afterwards. -/
theorem stored (f : (rV).view.ty.Contents (Elt F)) (P : List (View.Piece (Elt F) S8x16 .f32)) (w : FVec F S16 .f32) (r : ℕ)
    (inb : ∀ b : Fin 2, (![r, 0] : Fin 2 → ℕ) b + S1x16.size b ≤ S8x16.size b) (hc : S16.ShapeCasts S1x16) (r' : Fin 8) (y : Fin 16) :
    (rV).view.read (Elt F) ((rV).view.writes (Elt F) f (⟨Rect.unit (s := S8x16) ![r, 0] S1x16.size inb, shapeCast S1x16 w hc⟩ :: P)) (ix2 r' y)
      = if r'.val = r then w (ix1 y) else (rV).view.read (Elt F) ((rV).view.writes (Elt F) f P) (ix2 r' y) := by
  by_cases hr : r'.val = r
  · rw [if_pos hr]
    refine (View.read_writes_cons_rows_of_mem _ _ inb _ P (ix2 r' y) (ix2 (0 : Fin 1) y) rfl ?_ rfl).trans ?_
    · exact hr
    · refine (shapeCast_addUnit_apply ![16] w hc _).trans (congrArg w (funext fun b => Fin.ext ?_))
      match b with
      | ⟨0, _⟩ => rfl
  · rw [if_neg hr]
    exact View.read_writes_cons_rows_of_not_mem (W := 1) _ _ inb _ P (ix2 r' y) rfl rfl (by show r'.val < r ∨ r + 1 ≤ r'.val; omega)

/-- The tile's results read as the one block that is copied out. -/
theorem read_results (f : (rV).view.ty.Contents (Elt F)) (inb) (h) (r : Fin 8) (y : Fin 16) :
    View.read (Elt F) ((rV).slice (Rect.unit (s := S8x16) ![0, 0] S8x16.size inb) h).view f (ix2 r y) = (rV).view.read (Elt F) f (ix2 r y) := by
  rw [View.read_apply, View.read_apply]
  refine congrArg f (funext fun b => Fin.ext ?_)
  match b with
  | ⟨0, _⟩ => show 0 + 1 * r.val = r.val; omega
  | ⟨1, _⟩ => show 0 + 1 * y.val = y.val; omega

/-- The rows of the written array that are read afterwards. -/
def kept (r : ℕ) : Prop := r = 0 ∨ 8 ≤ r

/-- A tile's block of the written array, from row `a`, after its results are copied there: the rows that are read hold the
groups' means. -/
theorem copied_out (L : grid1.Coords) (A : S512x256.Idx → F .f32) {off : Fin 2 → ℕ} {a : ℕ}
    (inb : ∀ b : Fin 2, off b + S8x16.size b ≤ S16x256.size b) (hoff : off = ![a, 16 * (L 1).val]) (h)
    (f : ((oV).slice (Rect.unit (s := S16x256) off S8x16.size inb) h).view.ty.Contents (Elt F)) (w : S8x16.Idx → F .f32)
    (hw : ∀ (r : Fin 8) (y : Fin 16), kept (a + r.val) → w (ix2 r y) = outRow (colAt A (lane L y)) (a + r.val))
    (j : S16x256.Idx) (hj : j ∈ ((oV).slice (Rect.unit (s := S16x256) off S8x16.size inb) h).view.set) (hk : kept (j 0).val) :
    ((oV).slice (Rect.unit (s := S16x256) off S8x16.size inb) h).view.writes (Elt F) f [⟨Rect.whole S8x16, w⟩] j = outAt A j := by
  subst hoff
  obtain ⟨x, -, rfl⟩ := Finset.mem_map.mp hj
  obtain ⟨r, y, rfl⟩ : ∃ (r : Fin 8) (y : Fin 16), x = ix2 r y := ⟨x 0, x 1, eq_ix2 x⟩
  have e := View.read_apply (Val := Elt F) (v := ((oV).slice (Rect.unit (s := S16x256) ![a, 16 * (L 1).val] S8x16.size inb) h).view)
    (((oV).slice (Rect.unit (s := S16x256) ![a, 16 * (L 1).val] S8x16.size inb) h).view.writes (Elt F) f [⟨Rect.whole S8x16, w⟩]) (ix2 r y)
  have e0 : ((((oV).slice (Rect.unit (s := S16x256) ![a, 16 * (L 1).val] S8x16.size inb) h).view.emb (ix2 r y) : S16x256.Idx) 0).val = a + r.val := by
    show a + 1 * r.val = a + r.val; omega
  have e1 : (((oV).slice (Rect.unit (s := S16x256) ![a, 16 * (L 1).val] S8x16.size inb) h).view.emb (ix2 r y) : S16x256.Idx) 1 = lane L y :=
    Fin.ext (by show 16 * (L 1).val + 1 * y.val = 16 * (L 1).val + y.val; omega)
  rw [outAt, e0, e1]
  rw [e0] at hk
  rw [← hw r y hk]
  exact e.symm.trans (congrFun (View.read_writes_whole _ f w) (ix2 r y))

end Cert.Proof.Group

end
-- ==== Proof.Tile0.lean ====
/-
  A tile of SparseCore 0: it copies the large group's rows of the table for its sixteen columns, adds them up in four
  interleaved sums and writes the mean.
-/
module

public import proofs.«01_k».proof.Proof.Blocks

@[expose] public section

noncomputable section

namespace Cert.Proof.Group

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

variable (d : Dev nD) (L : grid1.Coords)

abbrev cV (L : grid1.Coords) : Fin τ.nSC := (L 0).castLE hcore1
abbrev jV (L : grid1.Coords) : Fin τ.nSub := (L 1).castLE hsub1

abbrev oBlk0 (L : grid1.Coords) (h : k1_cond1 L = 1#1) : Memref sig .scVector .hbm S8x16 .f32 :=
  (oV).slice (Rect.unit (s := S16x256) (k1_off2 L) S8x16.size (k1_off2_inb L h)) (fun _ => rfl)

/-- A row of the landed buffer, loaded as a vector: the table's row 144 further down. -/
theorem load0 (h1 : k1_cond1 L = 1#1) (A : S512x256.Idx → F .f32) (inb0) (inb1) (r : ℕ) (inb) (hc : S1x16.ShapeCasts S16) (y : Fin 16) (hr : r < 128) :
    shapeCast S16 ((bV).view.readCov [⟨Rect.unit (s := S128x16) ![0, 0] S128x16.size inb0, (ReadAs.same (Val := Elt F)).apply
        (View.read (Elt F) ((lV).slice (Rect.unit (s := S512x256) (k1_off1 L) S128x16.size inb1) (fun _ => rfl)).view A)⟩]
        (Rect.unit (s := S128x16) ![r, 0] S1x16.size inb).toLoadRect) hc (ix1 y) = colAt A (lane L y) (144 + r) := by
  refine (cov_lane _ r inb hc (ix1 y) hr).trans ((landed L A _ [] inb1 inb0 (k1_off1_eq L) (fun _ => rfl) ⟨r, hr⟩ y).trans ?_)
  exact if_pos ⟨Nat.zero_le _, by omega⟩

set_option maxHeartbeats 4000000 in
/-- The tile's run: the table comes back, and row 0 of the tile's block of the written array holds the mean. -/
theorem core0_run (h1 : k1_cond1 L = 1#1) (h2 : ¬ k1_cond2 L = 1#1) (q : PosShare TreeShare)
    (O : CellTallies nD τ sig (HIx 1)) (W : Waits sig (HIx 1)) (A : S512x256.Idx → F .f32)
    (fo : Buf (Elt F) ((oBlk0 L h1).view.loc (V d (cV L) (jV L)))) (fb : Buf (Elt F) ((bV).view.loc (V d (cV L) (jV L))))
    (fr : Buf (Elt F) ((rV).view.loc (V d (cV L) (jV L)))) :
    iprop(Transfers.MayWaits (V d (cV L) (jV L)) (default : HIx 1) O
        ∗ ((lV).view.loc (V d (cV L) (jV L)) ↦{q} A)
        ∗ ((oBlk0 L h1).view.loc (V d (cV L) (jV L)) ↦[(oBlk0 L h1).view.set]{fullShare} fo)
        ∗ ((bV).view.loc (V d (cV L) (jV L)) ↦{fullShare} fb)
        ∗ ((rV).view.loc (V d (cV L) (jV L)) ↦{fullShare} fr)
        ∗ semVal (V d (cV L) (jV L), .dma cc1_scoped0.sem) 0
        ∗ semVal (V d (cV L) (jV L), .dma cc1_scoped1.sem) 0
        ∗ owes (V d (cV L) (jV L)) O W)
      ⊢ (wp frame (wpE (defs₀ (F := F)) 𝒱₀ (V d (cV L) (jV L)) none) Set.univ
          (cc1__sc_group_mean L lV (Memref.isWhole_whole _) oV (Memref.isWhole_whole _) bV (Memref.isWhole_whole _)
            rV (Memref.isWhole_whole _) cc1_scoped0 cc1_scoped1 cc1_scoped2 cc1_scoped3 cc1_scoped4 cc1_scoped5
            cc1_scoped6 cc1_scoped7 cc1_scoped8)
          fun _ => iprop(((lV).view.loc (V d (cV L) (jV L)) ↦{q} A)
            ∗ (∃ f, ⌜∀ j : S16x256.Idx, j ∈ (oBlk0 L h1).view.set → kept (j 0).val → f j = outAt A j⌝
              ∗ ((oBlk0 L h1).view.loc (V d (cV L) (jV L)) ↦[(oBlk0 L h1).view.set]{fullShare} f))
            ∗ (∃ f, (bV).view.loc (V d (cV L) (jV L)) ↦{fullShare} f)
            ∗ (∃ f, (rV).view.loc (V d (cV L) (jV L)) ↦{fullShare} f)
            ∗ semVal (V d (cV L) (jV L), .dma cc1_scoped0.sem) 0
            ∗ semVal (V d (cV L) (jV L), .dma cc1_scoped1.sem) 0
            ∗ (∃ W', ⌜∀ p ∈ W', p ∈ W ∨ p.2 = none⌝ ∗ owes (V d (cV L) (jV L)) O W')) : sProp 𝕄) := by
  iintro ⟨#Hmw, Hl, Ho, Hb, Hr, Hs0, Hs1, HO⟩
  sl_exec
  sl_step
  isplitl [Hl]; · iexact Hl
  isplitl [Ho]
  · iexists _; isplitr
    swap; · iexact Ho
    ipureintro
    refine copied_out L A (k1_off2_inb L h1) (k1_off2_eq L) (fun _ => rfl) _ _ fun r y hk => ?_
    obtain rfl : r = 0 := Fin.ext (by have := r.isLt; rcases hk with hk | hk <;> simp at hk ⊢ <;> omega)
    refine (read_results ((rV).view.writes (Elt F) fr (core0_run.sl.Hr_1 L h1 A)) inb_S8x16_S8x16_0_0 _ _ _).trans ?_
    refine (stored _ _ _ _ _ _ _ _).trans ?_
    refine (if_pos rfl).trans ?_
    change _ = bigMean (colAt A (lane L y))
    refine congrArg₂ FloatOps.mulf (congrArg₂ FloatOps.addf (congrArg₂ FloatOps.addf ?_ ?_) (congrArg₂ FloatOps.addf ?_ ?_)) rfl
    all_goals
      repeat' refine congrArg₂ FloatOps.addf ?_ (load0 L h1 A _ _ _ _ _ y (by decide))
      rfl

  isplitl [Hb]; · iexists _; iexact Hb
  isplitl [Hr]; · iexists _; iexact Hr
  isplitl [Hs0]; · iexact Hs0
  isplitl [Hs1]; · iexact Hs1
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.Proof.Group

end
-- ==== Proof.Tile1.lean ====
/-
  A tile of SparseCore 1: it copies the classes of the eight small groups from the table for its sixteen columns, six
  blocks of rows one after the other into one buffer, adds each group up and writes the eight means.
-/
module

public import proofs.«01_k».proof.Proof.Tile0

@[expose] public section

noncomputable section

namespace Cert.Proof.Group

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

variable (d : Dev nD) (L : grid1.Coords)

abbrev oBlk1 (L : grid1.Coords) (h : k1_cond2 L = 1#1) : Memref sig .scVector .hbm S8x16 .f32 :=
  (oV).slice (Rect.unit (s := S16x256) (k1_off9 L) S8x16.size (k1_off9_inb L h)) (fun _ => rfl)

/-- The table's row that the six copies bring to row `r` of the buffer. -/
def sourceRow (r : ℕ) : ℕ :=
  if r < 16 then 24 + r else if r < 40 then 80 + (r - 16) else if r < 56 then 112 + (r - 40)
    else if r < 64 then 280 + (r - 56) else if r < 88 then 296 + (r - 64) else 360 + (r - 88)

/-- A row of the buffer after the six copies, loaded as a vector: the table's row it came from. -/
theorem load1 (A : S512x256.Idx → F .f32) (a3) (b3) (a4) (b4) (a5) (b5) (a6) (b6) (a7) (b7) (a8) (b8) (r : ℕ) (inb) (hc : S1x16.ShapeCasts S16)
    (y : Fin 16) (hr : r < 128) :
    shapeCast S16 ((bV).view.readCov [
        ⟨Rect.unit (s := S128x16) ![88, 0] S40x16.size b8, (ReadAs.same (Val := Elt F)).apply (View.read (Elt F)
          ((lV).slice (Rect.unit (s := S512x256) (k1_off8 L) S40x16.size a8) (fun _ => rfl)).view A)⟩,
        ⟨Rect.unit (s := S128x16) ![64, 0] S24x16.size b7, (ReadAs.same (Val := Elt F)).apply (View.read (Elt F)
          ((lV).slice (Rect.unit (s := S512x256) (k1_off7 L) S24x16.size a7) (fun _ => rfl)).view A)⟩,
        ⟨Rect.unit (s := S128x16) ![56, 0] S8x16.size b6, (ReadAs.same (Val := Elt F)).apply (View.read (Elt F)
          ((lV).slice (Rect.unit (s := S512x256) (k1_off6 L) S8x16.size a6) (fun _ => rfl)).view A)⟩,
        ⟨Rect.unit (s := S128x16) ![40, 0] S16x16.size b5, (ReadAs.same (Val := Elt F)).apply (View.read (Elt F)
          ((lV).slice (Rect.unit (s := S512x256) (k1_off5 L) S16x16.size a5) (fun _ => rfl)).view A)⟩,
        ⟨Rect.unit (s := S128x16) ![16, 0] S24x16.size b4, (ReadAs.same (Val := Elt F)).apply (View.read (Elt F)
          ((lV).slice (Rect.unit (s := S512x256) (k1_off4 L) S24x16.size a4) (fun _ => rfl)).view A)⟩,
        ⟨Rect.unit (s := S128x16) ![0, 0] S16x16.size b3, (ReadAs.same (Val := Elt F)).apply (View.read (Elt F)
          ((lV).slice (Rect.unit (s := S512x256) (k1_off3 L) S16x16.size a3) (fun _ => rfl)).view A)⟩]
        (Rect.unit (s := S128x16) ![r, 0] S1x16.size inb).toLoadRect) hc (ix1 y) = colAt A (lane L y) (sourceRow r) := by
  refine (cov_lane _ r inb hc (ix1 y) hr).trans ?_
  refine (landed L A _ _ a8 b8 (k1_off8_eq L) (fun _ => rfl) ⟨r, hr⟩ y).trans ?_
  split
  · next hc => exact congrArg (colAt A (lane L y)) (by simp only [sourceRow] at hc ⊢; (repeat' split) <;> omega)
  refine (landed L A _ _ a7 b7 (k1_off7_eq L) (fun _ => rfl) ⟨r, hr⟩ y).trans ?_
  split
  · next hc => exact congrArg (colAt A (lane L y)) (by simp only [sourceRow] at hc ⊢; (repeat' split) <;> omega)
  refine (landed L A _ _ a6 b6 (k1_off6_eq L) (fun _ => rfl) ⟨r, hr⟩ y).trans ?_
  split
  · next hc => exact congrArg (colAt A (lane L y)) (by simp only [sourceRow] at hc ⊢; (repeat' split) <;> omega)
  refine (landed L A _ _ a5 b5 (k1_off5_eq L) (fun _ => rfl) ⟨r, hr⟩ y).trans ?_
  split
  · next hc => exact congrArg (colAt A (lane L y)) (by simp only [sourceRow] at hc ⊢; (repeat' split) <;> omega)
  refine (landed L A _ _ a4 b4 (k1_off4_eq L) (fun _ => rfl) ⟨r, hr⟩ y).trans ?_
  split
  · next hc => exact congrArg (colAt A (lane L y)) (by simp only [sourceRow] at hc ⊢; (repeat' split) <;> omega)
  refine (landed L A _ _ a3 b3 (k1_off3_eq L) (fun _ => rfl) ⟨r, hr⟩ y).trans ?_
  split
  · next hc => exact congrArg (colAt A (lane L y)) (by simp only [sourceRow] at hc ⊢; (repeat' split) <;> omega)
  · next h5 h4 h3 h2 h1 h0 => exfalso; simp only at h5 h4 h3 h2 h1 h0; omega

set_option maxHeartbeats 4000000 in
/-- The tile's run: the table comes back, and the tile's block of the written array holds the eight means. -/
theorem core1_run (h1 : ¬ k1_cond1 L = 1#1) (h2 : k1_cond2 L = 1#1) (q : PosShare TreeShare)
    (O : CellTallies nD τ sig (HIx 1)) (W : Waits sig (HIx 1)) (A : S512x256.Idx → F .f32)
    (fo : Buf (Elt F) ((oBlk1 L h2).view.loc (V d (cV L) (jV L)))) (fb : Buf (Elt F) ((bV).view.loc (V d (cV L) (jV L))))
    (fr : Buf (Elt F) ((rV).view.loc (V d (cV L) (jV L)))) :
    iprop(Transfers.MayWaits (V d (cV L) (jV L)) (default : HIx 1) O
        ∗ ((lV).view.loc (V d (cV L) (jV L)) ↦{q} A)
        ∗ ((oBlk1 L h2).view.loc (V d (cV L) (jV L)) ↦[(oBlk1 L h2).view.set]{fullShare} fo)
        ∗ ((bV).view.loc (V d (cV L) (jV L)) ↦{fullShare} fb)
        ∗ ((rV).view.loc (V d (cV L) (jV L)) ↦{fullShare} fr)
        ∗ semVal (V d (cV L) (jV L), .dma cc1_scoped2.sem) 0
        ∗ semVal (V d (cV L) (jV L), .dma cc1_scoped3.sem) 0
        ∗ semVal (V d (cV L) (jV L), .dma cc1_scoped4.sem) 0
        ∗ semVal (V d (cV L) (jV L), .dma cc1_scoped5.sem) 0
        ∗ semVal (V d (cV L) (jV L), .dma cc1_scoped6.sem) 0
        ∗ semVal (V d (cV L) (jV L), .dma cc1_scoped7.sem) 0
        ∗ semVal (V d (cV L) (jV L), .dma cc1_scoped8.sem) 0
        ∗ owes (V d (cV L) (jV L)) O W)
      ⊢ (wp frame (wpE (defs₀ (F := F)) 𝒱₀ (V d (cV L) (jV L)) none) Set.univ
          (cc1__sc_group_mean L lV (Memref.isWhole_whole _) oV (Memref.isWhole_whole _) bV (Memref.isWhole_whole _)
            rV (Memref.isWhole_whole _) cc1_scoped0 cc1_scoped1 cc1_scoped2 cc1_scoped3 cc1_scoped4 cc1_scoped5
            cc1_scoped6 cc1_scoped7 cc1_scoped8)
          fun _ => iprop(((lV).view.loc (V d (cV L) (jV L)) ↦{q} A)
            ∗ (∃ f, ⌜∀ j : S16x256.Idx, j ∈ (oBlk1 L h2).view.set → kept (j 0).val → f j = outAt A j⌝
              ∗ ((oBlk1 L h2).view.loc (V d (cV L) (jV L)) ↦[(oBlk1 L h2).view.set]{fullShare} f))
            ∗ (∃ f, (bV).view.loc (V d (cV L) (jV L)) ↦{fullShare} f)
            ∗ (∃ f, (rV).view.loc (V d (cV L) (jV L)) ↦{fullShare} f)
            ∗ semVal (V d (cV L) (jV L), .dma cc1_scoped2.sem) 0
            ∗ semVal (V d (cV L) (jV L), .dma cc1_scoped3.sem) 0
            ∗ semVal (V d (cV L) (jV L), .dma cc1_scoped4.sem) 0
            ∗ semVal (V d (cV L) (jV L), .dma cc1_scoped5.sem) 0
            ∗ semVal (V d (cV L) (jV L), .dma cc1_scoped6.sem) 0
            ∗ semVal (V d (cV L) (jV L), .dma cc1_scoped7.sem) 0
            ∗ semVal (V d (cV L) (jV L), .dma cc1_scoped8.sem) 0
            ∗ (∃ W', ⌜∀ p ∈ W', p ∈ W ∨ p.2 = none⌝ ∗ owes (V d (cV L) (jV L)) O W')) : sProp 𝕄) := by
  iintro ⟨#Hmw, Hl, Ho, Hb, Hr, Hs2, Hs3, Hs4, Hs5, Hs6, Hs7, Hs8, HO⟩
  sl_exec
  sl_step
  isplitl [Hl]; · iexact Hl
  isplitl [Ho]
  · iexists _; isplitr
    swap; · iexact Ho
    ipureintro
    refine copied_out L A (k1_off9_inb L h2) (k1_off9_eq L) (fun _ => rfl) _ _ fun r y hk => ?_
    refine (read_results ((rV).view.writes (Elt F) fr (core1_run.sl.Hr_8 L h2 A)) inb_S8x16_S8x16_0_0 _ _ _).trans ?_
    iterate 8
      refine (stored _ _ _ _ _ _ _ _).trans ?_
      split
      · next hr =>
        rw [hr]
        refine congrArg₂ FloatOps.mulf ?_ rfl
        repeat' refine congrArg₂ FloatOps.addf ?_ (load1 L A _ _ _ _ _ _ _ _ _ _ _ _ _ _ _ y (by decide))
        rfl
    have := r.isLt
    omega

  isplitl [Hb]; · iexists _; iexact Hb
  isplitl [Hr]; · iexists _; iexact Hr
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Group

end
-- ==== Proof.Launch.lean ====
/-
  The SparseCore call's launch: what each tile is handed and hands back, a tile's run as the launch asks for it, and
  the call's operands split among the thirty-two tiles.
-/
module

public import proofs.«01_k».proof.Proof.Tile1

@[expose] public section

noncomputable section

namespace Cert.Proof.Group

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

/-! ## The tiles' blocks of the written array -/

/-- Tile `i` of core `c` writes rows `8 c` to `8 c + 7`, columns `16 i` to `16 i + 15`. -/
def oSet (c i : ℕ) : Finset S16x256.Idx := Finset.univ.filter fun j => (j 0).val / 8 = c ∧ (j 1).val / 16 = i

/-- An entry lies in a tile's block by its row's eights and its column's sixteens. -/
theorem mem_oSet {c i : ℕ} {j : S16x256.Idx} : j ∈ oSet c i ↔ (j 0).val / 8 = c ∧ (j 1).val / 16 = i := by
  simp [oSet]

/-- A block of eight rows from row `8 c` and sixteen columns, as a tile addresses it. -/
theorem set_block (L : grid1.Coords) {off : Fin 2 → ℕ} {c : ℕ} (inb : ∀ b : Fin 2, off b + S8x16.size b ≤ S16x256.size b)
    (hoff : off = ![8 * c, 16 * (L 1).val]) (h) :
    ((oV).slice (Rect.unit (s := S16x256) off S8x16.size inb) h).view.set = oSet c (L 1).val := by
  subst hoff
  ext j
  rw [mem_oSet]
  constructor
  · intro hj
    obtain ⟨x, -, rfl⟩ := Finset.mem_map.mp hj
    obtain ⟨r, y, rfl⟩ : ∃ (r : Fin 8) (y : Fin 16), x = ix2 r y := ⟨x 0, x 1, eq_ix2 x⟩
    constructor
    · show (8 * c + 1 * r.val) / 8 = c; omega
    · show (16 * (L 1).val + 1 * y.val) / 16 = (L 1).val; omega
  · rintro ⟨h0, h1⟩
    refine Finset.mem_map.mpr ⟨ix2 (⟨(j 0).val % 8, Nat.mod_lt _ (by decide)⟩ : Fin 8) (⟨(j 1).val % 16, Nat.mod_lt _ (by decide)⟩ : Fin 16), Finset.mem_univ _, ?_⟩
    funext b
    match b with
    | ⟨0, _⟩ => exact Fin.ext (by show 8 * c + 1 * ((j 0).val % 8) = (j 0).val; omega)
    | ⟨1, _⟩ => exact Fin.ext (by show 16 * (L 1).val + 1 * ((j 1).val % 16) = (j 1).val; omega)

/-- The block that a tile of the first SparseCore writes. -/
theorem set_oBlk0 (L : grid1.Coords) (h : k1_cond1 L = 1#1) : (oBlk0 L h).view.set = oSet 0 (L 1).val :=
  set_block L (c := 0) _ (k1_off2_eq L) _
/-- The block that a tile of the second SparseCore writes. -/
theorem set_oBlk1 (L : grid1.Coords) (h : k1_cond2 L = 1#1) : (oBlk1 L h).view.set = oSet 1 (L 1).val :=
  set_block L (c := 1) _ (k1_off9_eq L) _

/-! ## What the tiles are handed -/

/-- The share of the table of logits tile `i` of core `c` reads with. -/
abbrev tok (c i : ℕ) : PosShare TreeShare := Transfers.shareTokN fullShare (16 * c + i)

section Pays

variable (Lv : Dev nD → S512x256.Idx → F .f32) (O0 : (d : Dev nD) → Buf (Elt F) (oLoc d))

/-- A tile's share of the table, whose values are `Lv`. -/
abbrev lTok (d : Dev nD) (c i : ℕ) : sProp 𝕄 := lLoc d ↦{tok c i} (Lv d : Buf (Elt F) (lLoc d))
/-- What a tile is handed: its share of the table and its block of the array to write. -/
abbrev goP (d : Dev nD) (c i : ℕ) : sProp 𝕄 := iprop(lTok Lv d c i ∗ oLoc d ↦[oSet c i]{fullShare} O0 d)
/-- What a tile hands back: its share, and its block with the means in the rows that are read. -/
abbrev tdP (d : Dev nD) (c i : ℕ) : sProp 𝕄 :=
  iprop(lTok Lv d c i ∗ ∃ f : Buf (Elt F) (oLoc d), ⌜∀ j : S16x256.Idx, j ∈ oSet c i → kept (j 0).val → f j = outAt (Lv d) j⌝ ∗ oLoc d ↦[oSet c i]{fullShare} f)

/-- The call's hand-overs: each SparseCore takes what its sixteen tiles take, and brings back what they bring back. -/
def P : (K (F := F)).Pay (nD := nD) (Val := Elt F) (Name := ℕ) (U := UU) where
  st := fun q d c => match q with | 0 => bigSep Finset.univ fun i : Fin 16 => goP Lv O0 d c.val i.val
  dn := fun q d c => match q with | 0 => bigSep Finset.univ fun i : Fin 16 => tdP Lv d c.val i.val
  go := fun q d c i => match q with | 0 => goP Lv O0 d c.val i.val
  td := fun q d c i => match q with | 0 => tdP Lv d c.val i.val
  x := fun _ _ => iprop(emp)

/-- Every handshake's payload may be stored. -/
instance P_storable : (P Lv O0).IsStorable where
  st q d c := match q with
    | 0 => (inferInstance : BI.Storable (upEmb : UEmb _ 𝕄) (bigSep Finset.univ fun i : Fin 16 => goP Lv O0 d c.val i.val))
  dn q d c := match q with
    | 0 => (inferInstance : BI.Storable (upEmb : UEmb _ 𝕄) (bigSep Finset.univ fun i : Fin 16 => tdP Lv d c.val i.val))
  go q d c i := match q with
    | 0 => (inferInstance : BI.Storable (upEmb : UEmb _ 𝕄) (goP Lv O0 d c.val i.val))
  td q d c i := match q with
    | 0 => (inferInstance : BI.Storable (upEmb : UEmb _ 𝕄) (tdP Lv d c.val i.val))

/-! ## A tile's own semaphores and buffers -/

/-- The nine semaphores of the task's copies. -/
abbrev copySems : List (SemLoc sig) := [.dma cc1_scoped0.sem, .dma cc1_scoped1.sem, .dma cc1_scoped2.sem, .dma cc1_scoped3.sem,
  .dma cc1_scoped4.sem, .dma cc1_scoped5.sem, .dma cc1_scoped6.sem, .dma cc1_scoped7.sem, .dma cc1_scoped8.sem]

section Tile

variable (d : Dev nD) (L : grid1.Coords)

abbrev copyCells : List (GSem nD τ sig) := copySems.map fun s => (V d (cV L) (jV L), s)

omit [FloatOps F] [Named F] in
/-- The tile's semaphores are the nine of its copies and the rest. -/
theorem ownSems0_V :
    (ownSems0 (V d (cV L) (jV L)) : sProp 𝕄)
      = iprop((semVal (V d (cV L) (jV L), .dma cc1_scoped0.sem) 0 ∗ semVal (V d (cV L) (jV L), .dma cc1_scoped1.sem) 0
          ∗ semVal (V d (cV L) (jV L), .dma cc1_scoped2.sem) 0 ∗ semVal (V d (cV L) (jV L), .dma cc1_scoped3.sem) 0
          ∗ semVal (V d (cV L) (jV L), .dma cc1_scoped4.sem) 0 ∗ semVal (V d (cV L) (jV L), .dma cc1_scoped5.sem) 0
          ∗ semVal (V d (cV L) (jV L), .dma cc1_scoped6.sem) 0 ∗ semVal (V d (cV L) (jV L), .dma cc1_scoped7.sem) 0
          ∗ semVal (V d (cV L) (jV L), .dma cc1_scoped8.sem) 0)
          ∗ bigSep (ownCells (V d (cV L) (jV L)) \ (copyCells d L).toFinset) fun g => semVal g 0) := by
  unfold SparseCore.Cfg.ownSems0
  rw [SparseCore.bigSep_sdiff_split' (t := (copyCells d L).toFinset), bigSep_eq_bigSepL (copyCells d L)]
  · rfl
  · exact List.Nodup.map (fun a b e => (Prod.mk.inj e).2) (by decide)
  · intro g hg
    obtain ⟨s, hs, rfl⟩ := List.mem_map.mp (List.mem_toFinset.mp hg)
    exact (mem_ownCells (g := (V d (cV L) (jV L), s))).mpr ⟨rfl, (show ∀ s ∈ copySems, s.isScoped .scVector = true by decide) s hs⟩

omit [FloatOps F] [Named F] in
/-- The tile's buffers are its two scratch arrays, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## A tile's run -/

/-- The task as the launch spells it. -/
abbrev taskProg (L : grid1.Coords) :=
  cc1__sc_group_mean (F := F) L lV (Memref.isWhole_whole _) oV (Memref.isWhole_whole _) bV (Memref.isWhole_whole _)
    rV (Memref.isWhole_whole _) cc1_scoped0 cc1_scoped1 cc1_scoped2 cc1_scoped3 cc1_scoped4 cc1_scoped5
    cc1_scoped6 cc1_scoped7 cc1_scoped8

/-- On the first SparseCore a tile takes the first branch only. -/
theorem cond_zero (L : grid1.Coords) (h : (L 0).val = 0) : k1_cond1 L = 1#1 ∧ ¬ k1_cond2 L = 1#1 := by
  simp only [k1_cond1, k1_cond2, h]; decide
/-- On the second SparseCore a tile takes the second branch only. -/
theorem cond_one (L : grid1.Coords) (h : (L 0).val = 1) : ¬ k1_cond1 L = 1#1 ∧ k1_cond2 L = 1#1 := by
  simp only [k1_cond1, k1_cond2, h]; decide

set_option maxHeartbeats 4000000 in
/-- A tile's run between what it is handed and what it hands back: core 0's tiles compute the large group's mean, core
1's the eight small groups'. -/
theorem tile_body (hF : (K (F := F)).Facts) (O : CellTallies nD τ sig (HIx 1)) (W : Waits sig (HIx 1)) (hO : ∀ g, O g none = 0) :
    iprop(levAts (K (F := F)).L (K (F := F)).lev ∗ emp
        ∗ goP Lv O0 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (taskProg (F := F) L)
          fun _ => iprop(tdP Lv d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hl, Ho⟩, ⟨⟨%fb, Hb⟩, ⟨%fr, Hr⟩, Hbufs⟩, ⟨⟨H0, H1, H2, H3, H4, H5, H6, H7, H8⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  rcases (show (L 0).val = 0 ∨ (L 0).val = 1 by have : (L 0).val < 2 := (L 0).isLt; omega) with hc | hc
  · obtain ⟨h1, h2⟩ := cond_zero L hc
    have hs := set_oBlk0 L h1
    rw [hc, ← hs]
    iapply ((core0_run d L h1 h2 (tok 0 (L 1).val) O W (Lv d) (O0 d) fb fr).trans (wp_wand frame _ _)) $$ [Hmw Hl Ho Hb Hr H0 H1 HO]
    · isplitl [Hmw]; · iexact Hmw
      isplitl [Hl]; · iexact Hl
      isplitl [Ho]; · iexact Ho
      isplitl [Hb]; · iexact Hb
      isplitl [Hr]; · iexact Hr
      isplitl [H0]; · iexact H0
      isplitl [H1]; · iexact H1
      iexact HO
    iintro %_ ⟨Hl, Ho, Hb, Hr, H0, H1, HO⟩
    isplitl [Hl Ho]
    · isplitl [Hl]; · iexact Hl
      icases Ho with ⟨%f, %hf, Ho⟩
      iexists f
      isplitr; · ipureintro; exact fun j hj => hf j (hs.symm ▸ hj)
      rw [hs]; iexact Ho
    isplitl [Hb Hr Hbufs]
    · isplitl [Hb]; · iexact Hb
      isplitl [Hr]; · iexact Hr
      iexact Hbufs
    isplitr [HO]
    · isplitr [Hsems]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      iexact Hsems
    iexact HO
  · obtain ⟨h1, h2⟩ := cond_one L hc
    have hs := set_oBlk1 L h2
    rw [hc, ← hs]
    iapply ((core1_run d L h1 h2 (tok 1 (L 1).val) O W (Lv d) (O0 d) fb fr).trans (wp_wand frame _ _)) $$ [Hmw Hl Ho Hb Hr H2 H3 H4 H5 H6 H7 H8 HO]
    · isplitl [Hmw]; · iexact Hmw
      isplitl [Hl]; · iexact Hl
      isplitl [Ho]; · iexact Ho
      isplitl [Hb]; · iexact Hb
      isplitl [Hr]; · iexact Hr
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HO
    iintro %_ ⟨Hl, Ho, Hb, Hr, H2, H3, H4, H5, H6, H7, H8, HO⟩
    isplitl [Hl Ho]
    · isplitl [Hl]; · iexact Hl
      icases Ho with ⟨%f, %hf, Ho⟩
      iexists f
      isplitr; · ipureintro; exact fun j hj => hf j (hs.symm ▸ hj)
      rw [hs]; iexact Ho
    isplitl [Hb Hr Hbufs]
    · isplitl [Hb]; · iexact Hb
      isplitl [Hr]; · iexact Hr
      iexact Hbufs
    isplitr [HO]
    · isplitr [Hsems]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      iexact Hsems
    iexact HO

/-! ## The obligation -/

/-- The coordinates of tile `s` of core `c`. -/
def coordsV (c : Fin (grid1.bound 0)) (s : Fin (grid1.bound 1)) : grid1.Coords :=
  fun | 0 => c | 1 => s | ⟨_ + 2, h⟩ => absurd h (Nat.not_lt.2 (Nat.le_add_left _ _))

/-- The body table gives a tile its task. -/
theorem defs₀_vector (c : Fin τ.nSC) (s : Fin τ.nSub) :
    defs₀ (F := F) (.scVector c s) 1 () = SparseCore.onTile hcore1 hsub1 (fun c s => taskProg (F := F) (coordsV c s)) ⟨⟩ c s := rfl

omit [FloatOps F] [Named F] in
/-- A task's waits that are old or at the lowest mark are also allowed at the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task runs from what the launch hands it to what it hands back. -/
theorem tileObl (hF : (K (F := F)).Facts) : (K (F := F)).TileObl (D (F := F)) 𝒱 (P Lv O0) v₀ 0 := by
  intro d c i O W hO _ _
  simp only [show (P Lv O0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Lv O0 d (coordsV ⟨_, hci.1⟩ ⟨_, hci.2⟩) hF O W hO).trans (wp_mono frame _ _ fun _ => obl_post)

/-- Each SparseCore's operands are its tiles', and the tiles' results are its results. -/
theorem vecSplit : (K (F := F)).VecSplit' (P Lv O0) 0 := by
  intro d c
  show (bigSep Finset.univ fun i : Fin 16 => goP Lv O0 d c.val i.val) ⊢ |={Set.univ}=> iprop(
      (bigSep Finset.univ fun i : Fin 16 => goP Lv O0 d c.val i.val)
      ∗ ((bigSep Finset.univ fun i : Fin 16 => tdP Lv d c.val i.val) -∗ bigSep Finset.univ fun i : Fin 16 => tdP Lv d c.val i.val))
  iintro H; imodintro
  isplitl [H]; · iexact H
  iintro H; iexact H

end Tile

end Pays

end Cert.Proof.Group

end
-- ==== Proof.Region.lean ====
/-
  The TensorCore's part of the kernel, a pipeline of one point: the body's run and the pipeline between the arrays
  it takes and the arrays it leaves.
-/
module

public import proofs.«01_k».proof.Proof.Launch
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.Group

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig (HIx 1) (Elt F) ℕ UU ℕ

/-- The buffer behind a memref on device `d`, held whole at `f`. -/
abbrev heldAt (d : Dev nD) {sp : Space} {s : Shape} {e : EltTy} (M : Memref sig .tc sp s e) (f : Buf (Elt F) (M.view.loc (d : Thread nD τ))) : sProp 𝕄 :=
  M.view.loc (d : Thread nD τ) ↦{fullShare} f

set_option maxHeartbeats 1000000 in
/-- The body, from its four staging buffers held whole: the first three come back as they were, the fourth at what
the body computes of them. -/
theorem body_run (d : Dev nD) (i : grid0.Coords) (f0 : Buf (Elt F) ((stage0_0 0).view.loc (d : Thread nD τ))) (f1 : Buf (Elt F) ((stage0_1 0).view.loc (d : Thread nD τ)))
    (f2 : Buf (Elt F) ((stage0_2 0).view.loc (d : Thread nD τ))) (f3 : Buf (Elt F) ((stage0_3 0).view.loc (d : Thread nD τ))) (Q : PUnit → sProp 𝕄) :
    iprop(heldAt d (stage0_0 0) f0 ∗ heldAt d (stage0_1 0) f1 ∗ heldAt d (stage0_2 0) f2 ∗ heldAt d (stage0_3 0) f3
        ∗ (iprop(heldAt d (stage0_0 0) f0 ∗ heldAt d (stage0_1 0) f1 ∗ heldAt d (stage0_2 0) f2
            ∗ heldAt d (stage0_3 0) (k0_pay1 f0 f1 f2 : Buf (Elt F) ((stage0_3 0).view.loc (d : Thread nD τ)))) -∗ Q ⟨⟩))
      ⊢ wp frame (wpE (defs₀ (F := F)) 𝒱₀ (d : Thread nD τ) none) Set.univ
          (cc0__tc_logits_t_body (F := F) i (stage0_0 0) (hstage0_0 0) (stage0_1 0) (hstage0_1 0) (stage0_2 0) (hstage0_2 0) (stage0_3 0) (hstage0_3 0)) Q := by
  iintro ⟨H0, H1, H2, H3, Hk⟩
  sl_exec
  have hz : (![0, 0] : Fin 2 → ℕ) = fun _ => 0 := by decide
  have e : (stage0_3 0).view.writes (Elt F) f3 [⟨Rect.unit ![0, 0] S512x256.size inb_S512x256_S512x256_0_0, body_run.sl.v7 d f0 f1 f2⟩]
      = (k0_pay1 f0 f1 f2 : Buf (Elt F) ((stage0_3 0).view.loc (d : Thread nD τ))) := by
    refine (Memref.write_access_unit_zero_univ (Elt F) cc0_stg3_0 hz inb_S512x256_S512x256_0_0 f3 _).trans ?_
    have e0 := Memref.readAt_unit_zero (Elt F) cc0_stg0_0 hz inb_S256x2048_S256x2048_0_0 f0
    have e1 := Memref.readAt_unit_zero (Elt F) cc0_stg1_0 hz inb_S2048x512_S2048x512_0_0 f1
    have e2 := Memref.readAt_unit_zero (Elt F) cc0_stg2_0 hz inb_S1x512_S1x512_0_0 f2
    exact (show body_run.sl.v7 d f0 f1 f2 = k0_pay1 _ _ _ from rfl).trans (congr (congrArg₂ k0_pay1 e0 e1) e2)
  rw [e]
  sl_step
  iapply Hk
  isplitl [H0]; · iexact H0
  isplitl [H1]; · iexact H1
  isplitl [H2]; · iexact H2
  iexact H3

/-! ## The pipeline's data -/

section Data

variable (V : (d : Dev nD) → (b : Ref sig .tc) → Buf (Elt F) ((d : Thread nD τ).loc b))

/-- The three blocks as the pipeline's copies bring them: `x`, the first 512 columns of `W`, the bias row. -/
abbrev stg0 (d : Dev nD) : (cfg0.win 0).block.Idx → Elt F (cfg0.win 0).elt := ((cfg0.win 0).blk t0_0).view.read (Elt F) (V d main_arg0)
abbrev stg1 (d : Dev nD) : (cfg0.win 1).block.Idx → Elt F (cfg0.win 1).elt :=
  (cfg0.win 1).fill (grid0.coords t0_0) (fun _ => FloatOps.ofBits .f32 0x00000000#32) (((cfg0.win 1).blk t0_0).view.read (Elt F) (V d main_arg1))
abbrev stg2 (d : Dev nD) : (cfg0.win 2).block.Idx → Elt F (cfg0.win 2).elt := ((cfg0.win 2).blk t0_0).view.read (Elt F) (V d main_v1)

/-- The marks the thread may have recorded while the pipeline runs: those of level zero. -/
def lowMarks (d : Dev nD) : Set (SemLoc sig × HIx 1) := {p | (K (F := F)).lev ((d : Thread nD τ), p.1) p.2 ≤ 0}

/-- The pipeline's data on a device: the arrays as they are, what the body leaves in each staging buffer, what the
thread owes meanwhile to the SparseCores. -/
def dat (d : Dev nD) : Dat τ (Elt F) (HIx 1) ℕ UU ℕ cfg0 d where
  A w := V d (Pipeline.arrRef spec0 w)
  after w _ := match w with
    | ⟨0, _⟩ => stg0 V d
    | ⟨1, _⟩ => stg1 V d
    | ⟨2, _⟩ => stg2 V d
    | ⟨3, _⟩ => k0_pay1 (stg0 V d) (stg1 V d) (stg2 V d)
  Φ _ := Pipeline.scopedRest (Ix := HIx 1) (Name := ℕ) (U := UU) (Lvl := ℕ) (Val := Elt F) spec0 d
  q _ := fullShare
  owed _ := (K (F := F)).Otc d 0
  recorded _ := lowMarks (F := F) d

variable (adm : (p : Fin 1) → (pcfgs (F := F) p).Adm)

/-- The same, for the program's one pipeline. -/
def pdats : (p : Fin 1) → (c : Dev nD) → Dat τ (Elt F) (HIx 1) ℕ UU ℕ (Pipeline.pin (pcfgs (F := F)) adm p) c
  | ⟨0, _⟩ => fun c => dat V c

/-- Before the body each input's staging buffer holds its staged contents. -/
theorem before0 (d : Dev nD) (x) : (dat V d).before 0 t0_0 x = stg0 V d := by
  unfold Dat.before; rw [if_pos (fetch0_0 t0_0)]; rfl
theorem before1 (d : Dev nD) (x) : (dat V d).before 1 t0_0 x = stg1 V d := by
  unfold Dat.before; rw [if_pos (fetch0_1 t0_0)]
  exact (dat V d).fetched_of_clip_none 1 t0_0 (show ∀ a, win0_1.clip (grid0.coords t0_0) a = none by decide +kernel) x _
theorem before2 (d : Dev nD) (x) : (dat V d).before 2 t0_0 x = stg2 V d := by
  unfold Dat.before; rw [if_pos (fetch0_2 t0_0)]; rfl

/-! A staging buffer owned at some contents is its buffer held whole at them. -/

theorem owns_stg0 (d : Dev nD) (X) :
    (owns (d : Thread nD τ) ((cfg0.win 0).stage (cfg0.slots t0_0 0)) fullShare X : sProp 𝕄) = heldAt d (stage0_0 0) X :=
  owns_whole (d : Thread nD τ) cc0_stg0_0 fullShare X
theorem owns_stg1 (d : Dev nD) (X) :
    (owns (d : Thread nD τ) ((cfg0.win 1).stage (cfg0.slots t0_0 1)) fullShare X : sProp 𝕄) = heldAt d (stage0_1 0) X :=
  owns_whole (d : Thread nD τ) cc0_stg1_0 fullShare X
theorem owns_stg2 (d : Dev nD) (X) :
    (owns (d : Thread nD τ) ((cfg0.win 2).stage (cfg0.slots t0_0 2)) fullShare X : sProp 𝕄) = heldAt d (stage0_2 0) X :=
  owns_whole (d : Thread nD τ) cc0_stg2_0 fullShare X
theorem owns_stg3 (d : Dev nD) (X) :
    (owns (d : Thread nD τ) ((cfg0.win 3).stage (cfg0.slots t0_0 3)) fullShare X : sProp 𝕄) = heldAt d (stage0_3 0) X :=
  owns_whole (d : Thread nD τ) cc0_stg3_0 fullShare X

/-- The body's obligation at the pipeline's one point. -/
theorem body_obligation (d : Dev nD) : BodyObligation (dat V d) (defs₀ (F := F)) 𝒱₀ (none : HIx 1) Set.univ := fun t => by
  obtain rfl := fin_N0 t
  rw [bigSep_W0, bigSep_W0]
  rw [show (dat V d).Φ t0_0.succ = (dat V d).Φ t0_0.castSucc from rfl,
    show (dat V d).owesAt none t0_0.succ = (dat V d).owesAt none t0_0.castSucc from rfl]
  iintro ⟨HΦ, Howes, ⟨%d0, H0⟩, ⟨%d1, H1⟩, ⟨%d2, H2⟩, ⟨%d3, H3⟩⟩
  rw [before0, before1, before2]
  ihave H0 := (Entails.of_eq (owns_stg0 d _)) $$ H0
  ihave H1 := (Entails.of_eq (owns_stg1 d _)) $$ H1
  ihave H2 := (Entails.of_eq (owns_stg2 d _)) $$ H2
  ihave H3 := (Entails.of_eq (owns_stg3 d _)) $$ H3
  iapply (body_run d (grid0.coords t0_0) (stg0 V d) (stg1 V d) (stg2 V d) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iapply (Entails.of_eq (owns_stg0 d (stg0 V d)).symm); iexact H0
  isplitl [H1]; · iapply (Entails.of_eq (owns_stg1 d (stg1 V d)).symm); iexact H1
  isplitl [H2]; · iapply (Entails.of_eq (owns_stg2 d (stg2 V d)).symm); iexact H2
  iapply (Entails.of_eq (owns_stg3 d (k0_pay1 (stg0 V d) (stg1 V d) (stg2 V d))).symm); iexact H3

/-- The table of logits as the pipeline leaves it. -/
def logits (d : Dev nD) : Buf (Elt F) (lLoc d) := (dat V d).arrAt 3 cfg0.N

/-- What the thread owes to the SparseCores is at no mark of level zero. -/
theorem Otc_none (d : Dev nD) (g : GSem nD τ sig) : (K (F := F)).Otc d 0 g (none : HIx 1) = 0 := by
  by_contra h
  have := (K (F := F)).lev_of_Otc_pos (Nat.pos_of_ne_zero h)
  exact absurd this (by show ¬ (_ + 1 ≤ 0); omega)

variable (Vp : (d : Dev nD) → (b : Ref sig .tc) → Buf (Elt F) ((d : Thread nD τ).loc b))

/-- What the thread owes while the SparseCore call is to come, its recorded marks all of level zero. -/
abbrev owesLow (d : Dev nD) : sProp 𝕄 :=
  iprop(∃ W, ⌜(K (F := F)).WBelow (T d) W 0⌝ ∗ owes (T d) ((K (F := F)).Otc d 0) W)

set_option backward.isDefEq.respectTransparency.types false in
/-- The pipeline between its arrays: entered with every array at `V`, left with the table of logits written. -/
def reg (hVp_out : ∀ d, Vp d main_v2 = logits V d) (hVp_ne : ∀ d (b : Ref sig .tc), b ≠ main_v2 → Vp d b = V d b) :
    Pipeline.RegionSeg (pcfgs (F := F)) adm (pdats V adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ 0 c fun w s t => (K (F := F)).mayWait_none _ (Otc_none c)
  pre c := iprop(unscopedBufs c (V c) ∗ owesLow (F := F) c)
  post c := iprop(unscopedBufs c (Vp c) ∗ owesLow (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp_ne c main_arg0 (by decide)).symm
        · exact ((pdats V adm 0 c).arrAt_in 1 rfl _).trans (hVp_ne c main_arg1 (by decide)).symm
        · exact ((pdats V adm 0 c).arrAt_in 2 rfl _).trans (hVp_ne c main_v1 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact le_rfl
    iexact HO

end Data

end Cert.Proof.Group
end
-- ==== Proof.Operands.lean ====
/-
  The SparseCore call's operands: the table of logits lent to the thirty-two tiles in shares and the written array
  dealt to them in blocks, and both put together again after the call.
-/
module

public import proofs.«01_k».proof.Proof.Launch

@[expose] public section

noncomputable section

namespace Cert.Proof.Group

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]
local notation "𝕄" => MT nD τ sig (HIx 1) (Elt F) ℕ UU ℕ

/-- A conjunction over the two cores and their sixteen tiles is one over the thirty-two tiles. -/
theorem tiles32 (Φ : ℕ → ℕ → sProp 𝕄) :
    (bigSep Finset.univ fun c : Fin 2 => bigSep Finset.univ fun i : Fin 16 => Φ c.val i.val)
      = bigSep Finset.univ fun t : Fin 32 => Φ (t.val / 16) (t.val % 16) := by
  rw [← bigSep_univ_prod (fun p : Fin 2 × Fin 16 => Φ p.1.val p.2.val), bigSep_univ_equiv (finProdFinEquiv (m := 2) (n := 16))]
  refine bigSep_congr fun p _ => ?_
  have h1 : (p.2.val + 16 * p.1.val) / 16 = p.1.val := by omega
  have h2 : (p.2.val + 16 * p.1.val) % 16 = p.2.val := by omega
  show _ = Φ ((p.2.val + 16 * p.1.val) / 16) ((p.2.val + 16 * p.1.val) % 16)
  rw [h1, h2]

/-- The block of the written array that tile `t` of the thirty-two writes. -/
abbrev oBlock (t : Fin 32) : Finset S16x256.Idx := oSet (t.val / 16) (t.val % 16)

/-- Different tiles write different blocks. -/
theorem oBlock_disjoint : ∀ t ∈ (Finset.univ : Finset (Fin 32)), ∀ t' ∈ (Finset.univ : Finset (Fin 32)), t ≠ t' → Disjoint (oBlock t) (oBlock t') := by
  intro t _ t' _ hne
  refine Finset.disjoint_left.mpr fun j hj hj' => hne (Fin.ext ?_)
  obtain ⟨a, b⟩ := mem_oSet.mp hj
  obtain ⟨a', b'⟩ := mem_oSet.mp hj'
  omega

/-- The tiles' blocks make up the array. -/
theorem oBlock_cover : (Finset.univ : Finset (Fin 32)).biUnion oBlock = (Finset.univ : Finset S16x256.Idx) := by
  refine Finset.eq_univ_iff_forall.mpr fun j => Finset.mem_biUnion.mpr ?_
  have h0 : (j 0).val < 16 := (j 0).isLt
  have h1 : (j 1).val < 256 := (j 1).isLt
  refine ⟨⟨16 * ((j 0).val / 8) + (j 1).val / 16, by omega⟩, Finset.mem_univ _, mem_oSet.mpr ⟨?_, ?_⟩⟩
  · show (j 0).val / 8 = (16 * ((j 0).val / 8) + (j 1).val / 16) / 16; omega
  · show (j 1).val / 16 = (16 * ((j 0).val / 8) + (j 1).val / 16) % 16; omega

section

variable (Lv : Dev nD → S512x256.Idx → F .f32) (O0 : (d : Dev nD) → Buf (Elt F) (oLoc d))

/-- The table held whole is what the thread keeps of it and the tiles' shares. -/
theorem table_shares (d : Dev nD) :
    (lLoc d ↦{fullShare} (Lv d : Buf (Elt F) (lLoc d)) : sProp 𝕄)
      ⊣⊢ iprop((lLoc d ↦{Transfers.shareDrop fullShare 32} (Lv d : Buf (Elt F) (lLoc d)))
        ∗ bigSep Finset.univ fun t : Fin 32 => lTok Lv d (t.val / 16) (t.val % 16)) := by
  rw [show (bigSep Finset.univ fun t : Fin 32 => lTok Lv d (t.val / 16) (t.val % 16))
      = bigSep Finset.univ fun t : Fin 32 => (lLoc d ↦{Transfers.shareTok fullShare 32 t} (Lv d : Buf (Elt F) (lLoc d)) : sProp 𝕄) from
    bigSep_congr fun t _ => by
      show (lLoc d ↦{Transfers.shareTokN fullShare (16 * (t.val / 16) + t.val % 16)} _ : sProp 𝕄) = _
      rw [Nat.div_add_mod]]
  exact Transfers.pointsTo_toks fullShare 32

/-- Both arrays held whole are what the thread keeps of the table and what the call takes. -/
theorem call_takes (d : Dev nD) :
    iprop((lLoc d ↦{fullShare} (Lv d : Buf (Elt F) (lLoc d))) ∗ oLoc d ↦{fullShare} O0 d)
      ⊢ (iprop((lLoc d ↦{Transfers.shareDrop fullShare 32} (Lv d : Buf (Elt F) (lLoc d)))
        ∗ bigSep Finset.univ fun c : Fin ((K (F := F)).nCore 0) => (P Lv O0).st 0 d c) : sProp 𝕄) := by
  rw [show (bigSep Finset.univ fun c : Fin ((K (F := F)).nCore 0) => (P Lv O0).st 0 d c)
      = bigSep Finset.univ fun t : Fin 32 => goP Lv O0 d (t.val / 16) (t.val % 16) from tiles32 (fun c i => goP Lv O0 d c i), bigSep_sep']
  iintro ⟨Hl, Ho⟩
  ihave Hl := (table_shares Lv d).1 $$ Hl
  icases Hl with ⟨Hk, Ht⟩
  isplitl [Hk]; · iexact Hk
  isplitl [Ht]; · iexact Ht
  rw [← pointsTo_biUnion Finset.univ (ℓ := oLoc d) oBlock oBlock_disjoint, oBlock_cover]
  iexact Ho

/-- The tiles' blocks, each with its means, are the written array with all of them. -/
theorem blocks_join (d : Dev nD) :
    (bigSep Finset.univ fun t : Fin 32 => iprop(∃ f : Buf (Elt F) (oLoc d),
        ⌜∀ j : S16x256.Idx, j ∈ oBlock t → kept (j 0).val → f j = outAt (Lv d) j⌝ ∗ oLoc d ↦[oBlock t]{fullShare} f))
      ⊢ (iprop(∃ f : Buf (Elt F) (oLoc d), ⌜∀ j : S16x256.Idx, kept (j 0).val → f j = outAt (Lv d) j⌝ ∗ oLoc d ↦{fullShare} f) : sProp 𝕄) := by
  refine (bigSep_exists_pi Finset.univ (fun t (f : Buf (Elt F) (oLoc d)) => iprop(⌜∀ j : S16x256.Idx, j ∈ oBlock t → kept (j 0).val → f j = outAt (Lv d) j⌝
    ∗ oLoc d ↦[oBlock t]{fullShare} f))).trans ?_
  iintro ⟨%fs, H⟩
  ihave H := (bigSep_pure_sep Finset.univ (fun t : Fin 32 => ∀ j : S16x256.Idx, j ∈ oBlock t → kept (j 0).val → fs t j = outAt (Lv d) j)
    (fun t => (oLoc d ↦[oBlock t]{fullShare} fs t : sProp 𝕄))) $$ H
  icases H with ⟨%hfs, H⟩
  ihave H' := (pointsTo_biUnion_join (ℓ := oLoc d) (q := fullShare) (Val := Elt F) Finset.univ oBlock fs (fs 0) oBlock_disjoint) $$ H
  icases H' with ⟨%g, %hg, Hg⟩
  rw [oBlock_cover]
  iexists g; isplitr
  · ipureintro
    intro j hj
    obtain ⟨t, ht, hjt⟩ := Finset.mem_biUnion.mp (oBlock_cover.symm ▸ Finset.mem_univ j)
    exact (hg t ht j hjt).trans (hfs t ht j hjt hj)
  iexact Hg

/-- What the thread kept of the table and what the call brings back are the table whole and the written array. -/
theorem call_brings (d : Dev nD) :
    iprop((lLoc d ↦{Transfers.shareDrop fullShare 32} (Lv d : Buf (Elt F) (lLoc d)))
        ∗ bigSep Finset.univ fun c : Fin ((K (F := F)).nCore 0) => (P Lv O0).dn 0 d c)
      ⊢ (iprop((lLoc d ↦{fullShare} (Lv d : Buf (Elt F) (lLoc d)))
        ∗ ∃ f : Buf (Elt F) (oLoc d), ⌜∀ j : S16x256.Idx, kept (j 0).val → f j = outAt (Lv d) j⌝ ∗ oLoc d ↦{fullShare} f) : sProp 𝕄) := by
  rw [show (bigSep Finset.univ fun c : Fin ((K (F := F)).nCore 0) => (P Lv O0).dn 0 d c)
      = bigSep Finset.univ fun t : Fin 32 => tdP Lv d (t.val / 16) (t.val % 16) from tiles32 (fun c i => tdP Lv d c i), bigSep_sep']
  iintro ⟨Hk, Ht, Ho⟩
  isplitl [Hk Ht]
  · iapply (table_shares Lv d).2
    isplitl [Hk] <;> iassumption
  iapply (blocks_join Lv d); iexact Ho

end

end Cert.Proof.Group

end
-- ==== Proof.Main.lean ====
/-
  The whole program's run: @main on the TensorCore — the bias row, the pipeline, the SparseCore call, the rows read
  back —, the launch, and what the final memory holds.
-/
module

public import proofs.«01_k».proof.Proof.Region
public import proofs.«01_k».proof.Proof.Operands

@[expose] public section

noncomputable section

namespace Cert.Proof.Group

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.TcCoe Idealize.ShloMosaic.Tactic
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig (HIx 1) (Elt F) ℕ UU ℕ

/-! ## The TensorCore's arrays -/

/-- An array of the TensorCore's, as the device's memory names it. -/
abbrev ref (b : Ref sig .tc) : DevRef τ sig := Proc.devRef .tc b

/-- The TensorCore's arrays: the three arguments and the eight values of @main. -/
abbrev arrs : Finset (DevRef τ sig) :=
  {ref main_arg0, ref main_arg1, ref main_arg2, ref main_v0, ref main_v1, ref main_v2, ref main_v3, ref main_v4, ref main_v5, ref main_v6, ref main_v7}

omit [FloatOps F] [Named F] in
/-- The arrays held one by one. -/
theorem held_arrs (d : Dev nD) (W : Valuation τ sig (Elt F)) :
    (held (SparseCore.T d) arrs W : sProp 𝕄)
      = iprop(((SparseCore.T d).loc main_arg0 ↦{fullShare} W (ref main_arg0)) ∗ ((SparseCore.T d).loc main_arg1 ↦{fullShare} W (ref main_arg1))
          ∗ ((SparseCore.T d).loc main_arg2 ↦{fullShare} W (ref main_arg2)) ∗ ((SparseCore.T d).loc main_v0 ↦{fullShare} W (ref main_v0))
          ∗ ((SparseCore.T d).loc main_v1 ↦{fullShare} W (ref main_v1)) ∗ (lLoc d ↦{fullShare} W (ref main_v2))
          ∗ (oLoc d ↦{fullShare} W (ref main_v3)) ∗ ((SparseCore.T d).loc main_v4 ↦{fullShare} W (ref main_v4))
          ∗ ((SparseCore.T d).loc main_v5 ↦{fullShare} W (ref main_v5)) ∗ ((SparseCore.T d).loc main_v6 ↦{fullShare} W (ref main_v6))
          ∗ (SparseCore.T d).loc main_v7 ↦{fullShare} W (ref main_v7)) := by
  unfold held arrs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A valuation read at the TensorCore's arrays. -/
abbrev atTc (W : Dev nD → Valuation τ sig (Elt F)) (d : Dev nD) (b : Ref sig .tc) : Buf (Elt F) ((d : Thread nD τ).loc b) := W d (ref b)

omit [FloatOps F] [Named F] in
/-- The unscoped buffers are those arrays. -/
theorem unscoped_held (d : Dev nD) (W : Dev nD → Valuation τ sig (Elt F)) : (unscopedBufs d (atTc W d) : sProp 𝕄) = held (SparseCore.T d) arrs (W d) := by
  unfold unscopedBufs
  rw [show (Finset.univ.filter fun b : Ref sig .tc => ¬ b.isScoped)
      = {main_arg0, main_arg1, main_arg2, main_v0, main_v1, main_v2, main_v3, main_v4, main_v5, main_v6, main_v7} by decide, held_arrs,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The operations on the host -/

/-- Before the kernels: the bias's first 512 entries, as a row. -/
abbrev opBias : HloOp τ sig (Elt F) := StableHlo.unary main_arg2 main_v0 (extractStridedSlice S512 ![0] · slices_S1000_S512_0)
abbrev opRow : HloOp τ sig (Elt F) := StableHlo.reshape main_v0 main_v1 rfl shapeCasts_S512_S1x512
/-- After them: row 0 and rows 8 to 15 of the written array, stacked, and transposed. -/
abbrev opHead : HloOp τ sig (Elt F) := StableHlo.unary main_v3 main_v4 (extractStridedSlice S1x256 ![0, 0] · slices_S16x256_S1x256_0_0)
abbrev opTail : HloOp τ sig (Elt F) := StableHlo.unary main_v3 main_v5 (extractStridedSlice S8x256 ![8, 0] · slices_S16x256_S8x256_8_0)
abbrev opStack : HloOp τ sig (Elt F) :=
  StableHlo.binary main_v4 main_v5 main_v6 fun a b => concatenate S9x256 0 [⟨S1x256, a⟩, ⟨S8x256, b⟩] concatenates_S1x256_S8x256_S9x256_d0
abbrev opTurn : HloOp τ sig (Elt F) := StableHlo.unary main_v6 main_v7 (transpose S256x9 [1, 0] · transposes_S9x256_S256x9_1_0)

/-- What the program returns, over the array the SparseCores wrote. -/
def result (f : S16x256.Idx → F .f32) : S256x9.Idx → F .f32 :=
  transpose S256x9 [1, 0] (concatenate S9x256 0 [⟨S1x256, extractStridedSlice S1x256 ![0, 0] f slices_S16x256_S1x256_0_0⟩,
    ⟨S8x256, extractStridedSlice S8x256 ![8, 0] f slices_S16x256_S8x256_8_0⟩] concatenates_S1x256_S8x256_S9x256_d0) transposes_S9x256_S256x9_1_0

omit [FloatOps F] [Named F] in
/-- The result reads row 0 and rows 8 to 15 only. -/
theorem result_congr {f g : S16x256.Idx → F .f32} (h : ∀ j, kept (j 0).val → f j = g j) : result f = result g := by
  unfold result
  rw [show extractStridedSlice S1x256 ![0, 0] f slices_S16x256_S1x256_0_0 = extractStridedSlice S1x256 ![0, 0] g slices_S16x256_S1x256_0_0 from
      funext fun j => h _ (Or.inl (by have : (j 0).val < 1 := (j 0).isLt; show 0 + (j 0).val = 0; omega)),
    show extractStridedSlice S8x256 ![8, 0] f slices_S16x256_S8x256_8_0 = extractStridedSlice S8x256 ![8, 0] g slices_S16x256_S8x256_8_0 from
      funext fun j => h _ (Or.inr (by show 8 ≤ 8 + (j 0).val; omega))]

section Run

variable (m : (ℓ : Loc nD τ sig) → Buf (Elt F) ℓ) (ρ : Dev nD → PrngReg)

/-- The arrays at the launch, before the pipeline, after it, and after the SparseCore call wrote `f`. -/
def W0 (d : Dev nD) : Valuation τ sig (Elt F) := fun b => m (d, b)
def W1 (d : Dev nD) : Valuation τ sig (Elt F) := (opRow (F := F)).result ((opBias (F := F)).result (W0 m d))
/-- The table of logits the pipeline leaves. -/
abbrev table (d : Dev nD) : S512x256.Idx → F .f32 := logits (atTc (W1 m)) d
def W2 (d : Dev nD) : Valuation τ sig (Elt F) := Function.update (W1 m d) (ref main_v2) (table m d)
def W3 (d : Dev nD) (f : S16x256.Idx → F .f32) : Valuation τ sig (Elt F) := Function.update (W2 m d) (ref main_v3) f
def W4 (d : Dev nD) (f : S16x256.Idx → F .f32) : Valuation τ sig (Elt F) :=
  (opTurn (F := F)).result ((opStack (F := F)).result ((opTail (F := F)).result ((opHead (F := F)).result (W3 m d f))))

/-- What the array the SparseCores write holds at the launch. -/
abbrev out0 (d : Dev nD) : Buf (Elt F) (oLoc d) := m (oLoc d)

/-- After the pipeline the table holds the logits. -/
theorem W2_out (d : Dev nD) : atTc (W2 m) d main_v2 = logits (atTc (W1 m)) d := Function.update_self _ _ _
/-- The pipeline changes no other array. -/
theorem W2_ne (d : Dev nD) (b : Ref sig .tc) (h : b ≠ main_v2) : atTc (W2 m) d b = atTc (W1 m) d b :=
  Function.update_of_ne (fun e => h (Proc.devRef_injective _ e)) _ _
/-- The bias operations change no other array. -/
theorem W1_ne (d : Dev nD) (b : Ref sig .tc) (h0 : b ≠ main_v0) (h1 : b ≠ main_v1) : W1 m d (ref b) = m (d, ref b) :=
  (StableHlo.reshape_result_ne _ _ _ _ _ _ _ h1).trans (StableHlo.unary_result_ne _ _ _ _ _ _ h0)
/-- The SparseCores' array still holds its launch contents. -/
theorem W2_v3 (d : Dev nD) : W2 m d (ref main_v3) = out0 m d := (W2_ne m d main_v3 (by decide)).trans (W1_ne m d main_v3 (by decide) (by decide))

/-- An argument keeps its launch contents to the end. -/
theorem W4_arg (d : Dev nD) (f : S16x256.Idx → F .f32) (b : Ref sig .tc)
    (hb : b ∉ [main_v0, main_v1, main_v2, main_v3, main_v4, main_v5, main_v6, main_v7]) : W4 m d f (ref b) = m (d, ref b) := by
  simp only [List.mem_cons, List.not_mem_nil, not_or, not_false_eq_true, and_true] at hb
  obtain ⟨h0, h1, h2, h3, h4, h5, h6, h7⟩ := hb
  exact (StableHlo.unary_result_ne _ _ _ _ _ _ h7).trans ((StableHlo.binary_result_ne _ _ _ _ _ _ _ _ h6).trans ((StableHlo.unary_result_ne _ _ _ _ _ _ h5).trans
    ((StableHlo.unary_result_ne _ _ _ _ _ _ h4).trans ((Function.update_of_ne (fun e => h3 (Proc.devRef_injective _ e)) _ _).trans
      ((W2_ne m d b h2).trans (W1_ne m d b h0 h1))))))

/-- The result at the end. -/
theorem W4_v7 (d : Dev nD) (f : S16x256.Idx → F .f32) : W4 m d f (ref main_v7) = result f := by
  unfold W4
  rw [StableHlo.unary_result, StableHlo.binary_result, StableHlo.unary_result_ne _ _ _ _ _ _ (show main_v4 ≠ main_v5 by decide), StableHlo.unary_result,
    StableHlo.unary_result, StableHlo.unary_result_ne _ _ _ _ _ _ (show main_v3 ≠ main_v4 by decide), show W3 m d f (ref main_v3) = f from Function.update_self _ _ _]
  rfl

/-! ## The launch's ghost state -/

abbrev adm : (p : Fin 1) → (pcfgs (F := F) p).Adm := fun p => (cfgs p).toPCfg_adm

/-- The pipeline's staging cells and tokens on a device. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] [Named F] in
/-- The ghost state parts into the handshakes' and the pipeline's. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The launch's ghost state gives every protocol its start. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (table m) (out0 m)).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  · rw [show (bigSep Finset.univ fun thr : Thread nD τ => bigSep Finset.univ fun q : Fin 1 => (P (table m) (out0 m)).x q thr) = (iprop(emp) : sProp 𝕄) from
      (bigSep_congr fun thr _ => bigSep_univ_of_subsingleton (0 : Fin 1)).trans (bigSep_emp_const _)]
    iempintro

/-! ## @main on the TensorCore -/

/-- Each host operation touches the TensorCore's arrays only. -/
theorem hBias : (opBias (F := F)).bufs ⊆ arrs := show ({ref main_arg2, ref main_v0} : Finset (DevRef τ sig)) ⊆ arrs by decide
theorem hRow : (opRow (F := F)).bufs ⊆ arrs := show ({ref main_v0, ref main_v1} : Finset (DevRef τ sig)) ⊆ arrs by decide
theorem hHead : (opHead (F := F)).bufs ⊆ arrs := show ({ref main_v3, ref main_v4} : Finset (DevRef τ sig)) ⊆ arrs by decide
theorem hTail : (opTail (F := F)).bufs ⊆ arrs := show ({ref main_v3, ref main_v5} : Finset (DevRef τ sig)) ⊆ arrs by decide
theorem hStack : (opStack (F := F)).bufs ⊆ arrs := show ({ref main_v4, ref main_v5, ref main_v6} : Finset (DevRef τ sig)) ⊆ arrs by decide
theorem hTurn : (opTurn (F := F)).bufs ⊆ arrs := show ({ref main_v6, ref main_v7} : Finset (DevRef τ sig)) ⊆ arrs by decide

/-- The pipeline between the arrays before it and after it. -/
def region := reg (atTc (W1 m)) adm (atTc (W2 m)) (W2_out m) (W2_ne m)

/-- The arrays with the two of the SparseCore call held apart. -/
theorem arrs_call (d : Dev nD) (W : Valuation τ sig (Elt F)) :
    (held (SparseCore.T d) arrs W : sProp 𝕄)
      = iprop(((lLoc d ↦{fullShare} W (ref main_v2)) ∗ oLoc d ↦{fullShare} W (ref main_v3))
          ∗ held (SparseCore.T d) (arrs \ {ref main_v2, ref main_v3}) W) := by
  rw [StableHlo.held_sub_split (SparseCore.T d) (show ({ref main_v2, ref main_v3} : Finset (DevRef τ sig)) ⊆ arrs by decide)]
  congr 1
  unfold held
  rw [SparseCore.bigSep_insert' (by decide), bigSep_singleton]

/-- The arrays after the call: the two at what it left, the rest as before. -/
theorem arrs_after (d : Dev nD) (f : S16x256.Idx → F .f32) :
    iprop((((lLoc d ↦{fullShare} (table m d : Buf (Elt F) (lLoc d))) ∗ oLoc d ↦{fullShare} (f : Buf (Elt F) (oLoc d)))
        ∗ held (SparseCore.T d) (arrs \ {ref main_v2, ref main_v3}) (W2 m d)))
      = (held (SparseCore.T d) arrs (W3 m d f) : sProp 𝕄) := by
  rw [arrs_call d (W3 m d f), show W3 m d f (ref main_v3) = f from Function.update_self _ _ _,
    show W3 m d f (ref main_v2) = table m d from (Function.update_of_ne (show ref main_v2 ≠ ref main_v3 by decide) _ _).trans (W2_out m d)]
  congr 1

/-- What @main leaves: the arguments at their launch contents and the result of the means the SparseCores wrote. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2))
    ∗ (SparseCore.T d).loc main_v7 ↦{fullShare} (result (outAt (table m d)) : Buf (Elt F) ((SparseCore.T d).loc main_v7)))

/-- The arrays at the end hold what @main leaves. -/
theorem arrs_end (d : Dev nD) (f : S16x256.Idx → F .f32) (hf : ∀ j, kept (j 0).val → f j = outAt (table m d) j) :
    (held (SparseCore.T d) arrs (W4 m d f) : sProp 𝕄) ⊢ FIN m d := by
  rw [held_arrs, W4_arg m d f main_arg0 (by decide), W4_arg m d f main_arg1 (by decide), W4_arg m d f main_arg2 (by decide), W4_v7, result_congr hf]
  iintro ⟨H0, H1, H2, -, -, -, -, -, -, -, H7⟩
  isplitl [H0]; · iexact H0
  isplitl [H1]; · iexact H1
  isplitl [H2]; · iexact H2
  iexact H7

/-- @main on a device's TensorCore: from the launch's state to the arguments unchanged and the result. -/
theorem hmain [∀ e, Nonempty (Elt F e)] (κ' : GSem nD τ sig → ℕ) (d : Dev nD) :
    iprop((K (F := F)).ctx EH (P (table m) (out0 m)) κ' ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [show (unscopedBufs d (fun b => m ((SparseCore.T d).loc b)) : sProp 𝕄) = held (SparseCore.T d) arrs (W0 m d) from unscoped_held d (W0 m)]
  simp only [main, wp_bind, wp_pure]
  iintro ⟨#Hctx, Hst, ⟨Hb, Hheld, Hts, -⟩, HG⟩
  iapply (wp_hlo_within 𝒱 (SparseCore.T d) none Set.univ (op := opBias) (S := arrs) hBias (V := W0 m d)) $$ [Hb Hheld]
  · isplitl [Hb] <;> iassumption
  iintro ⟨Hb, Hheld⟩
  rw [wp_ret]; imodintro
  iapply (wp_hlo_within 𝒱 (SparseCore.T d) none Set.univ (op := opRow) (S := arrs) hRow (V := (opBias (F := F)).result (W0 m d))) $$ [Hb Hheld]
  · isplitl [Hb] <;> iassumption
  iintro ⟨Hb, Hheld⟩
  rw [wp_ret]; imodintro
  -- the pipeline
  ihave Hst' := (show (K (F := F)).tcSt EH d 0 ⊢ iprop(owesLow (F := F) d ∗ (owesLow (F := F) d -∗ (K (F := F)).tcSt EH d 0)) from by
    unfold SparseCore.Cfg.tcSt
    iintro ⟨HO, Hr⟩
    isplitl [HO]; · iexact HO
    iintro HO
    isplitl [HO]; · iexact HO
    iexact Hr) $$ Hst
  icases Hst' with ⟨HO, Hback⟩
  icases HG with ⟨Hg, Ht⟩
  ihave Hlv := ((K (F := F)).ctx_levAts (EH := EH) (P := P (table m) (out0 m)) κ' (lv := (K (F := F)).lev)) $$ Hctx
  iapply ((K (F := F)).wp_liftProg (D (F := F)) 𝒱 (SparseCore.T d) Set.univ none (.op (.customCall (Pipeline.entry 0) ()) .ret) _)
  iapply (Pipeline.RegionSeg.wp (pcfgs (F := F)) adm (pdats (atTc (W1 m)) adm) (none : HIx 1) cellOf_inj EP defs₀ 𝒱₀ (K (F := F)).L (K (F := F)).lev
    (region m) d none (fun _ h => nomatch h) _ _)
  isplitr [Hb Hheld HO Hlv Hg Ht]
  · iintro ⟨Hb, Hpost⟩
    rw [wp_ret]; imodintro
    ihave Hpost := (show (region m).post d ⊢ iprop(unscopedBufs d (atTc (W2 m) d) ∗ owesLow (F := F) d) from .rfl) $$ Hpost
    icases Hpost with ⟨Hheld, HO⟩
    ihave Hst := Hback $$ HO
    ihave Hheld := (Entails.of_eq ((unscoped_held d (W2 m)).trans (arrs_call d (W2 m d)))) $$ Hheld
    icases Hheld with ⟨Hlo, Hrest⟩
    ihave Hlo := (Entails.of_eq (show iprop((lLoc d ↦{fullShare} W2 m d (ref main_v2)) ∗ oLoc d ↦{fullShare} W2 m d (ref main_v3))
      = (iprop((lLoc d ↦{fullShare} (table m d : Buf (Elt F) (lLoc d))) ∗ oLoc d ↦{fullShare} out0 m d) : sProp 𝕄) by
        rw [W2_v3, show W2 m d (ref main_v2) = table m d from W2_out m d])) $$ Hlo
    ihave Hlo := (call_takes (table m) (out0 m) d) $$ Hlo
    icases Hlo with ⟨Hkeep, Hcall⟩
    -- the SparseCore call
    iapply ((K (F := F)).wp_run (D (F := F)) 𝒱 (EH := EH) (P := P (table m) (out0 m)) κ' d 0)
    isplitr; · iexact Hctx
    isplitl [Hst]; · iexact Hst
    isplitl [Hcall]; · iexact Hcall
    iintro ⟨Hst, Hdn⟩
    ihave Hlo := (call_brings (table m) (out0 m) d) $$ [Hkeep Hdn]
    · isplitl [Hkeep] <;> iassumption
    icases Hlo with ⟨Hl, %f, %hf, Ho⟩
    ihave Hheld := (Entails.of_eq (arrs_after m d f)) $$ [Hl Ho Hrest]
    · isplitl [Hl Ho]
      · isplitl [Hl] <;> iassumption
      · iexact Hrest
    -- the rows read back
    iapply (wp_hlo_within 𝒱 (SparseCore.T d) none Set.univ (op := opHead) (S := arrs) hHead (V := W3 m d f)) $$ [Hb Hheld]
    · isplitl [Hb] <;> iassumption
    iintro ⟨Hb, Hheld⟩
    rw [wp_ret]; imodintro
    iapply (wp_hlo_within 𝒱 (SparseCore.T d) none Set.univ (op := opTail) (S := arrs) hTail (V := (opHead (F := F)).result (W3 m d f))) $$ [Hb Hheld]
    · isplitl [Hb] <;> iassumption
    iintro ⟨Hb, Hheld⟩
    rw [wp_ret]; imodintro
    iapply (wp_hlo_within 𝒱 (SparseCore.T d) none Set.univ (op := opStack) (S := arrs) hStack
      (V := (opTail (F := F)).result ((opHead (F := F)).result (W3 m d f)))) $$ [Hb Hheld]
    · isplitl [Hb] <;> iassumption
    iintro ⟨Hb, Hheld⟩
    rw [wp_ret]; imodintro
    iapply (wp_hlo_within 𝒱 (SparseCore.T d) none Set.univ (op := opTurn) (S := arrs) hTurn
      (V := (opStack (F := F)).result ((opTail (F := F)).result ((opHead (F := F)).result (W3 m d f))))) $$ [Hb Hheld]
    · isplitl [Hb] <;> iassumption
    iintro ⟨Hb, Hheld⟩
    rw [wp_ret]; imodintro; imodintro
    isplitl [Hst]; · iexact Hst
    isplitr [Hb Hts]
    · iapply (arrs_end m d f hf); iexact Hheld
    isplitl [Hb] <;> iassumption
  isplitl [Hb]; · iexact Hb
  isplitl [Hheld HO]
  · rw [show (region m).pre d = iprop(unscopedBufs d (atTc (W1 m) d) ∗ owesLow (F := F) d) from rfl]
    isplitl [Hheld]
    · iapply (Entails.of_eq (unscoped_held d (W1 m)).symm); iexact Hheld
    · iexact HO
  isplitl [Hlv]; · iexact Hlv
  isplitl [Hg] <;> iassumption

/-! ## The run -/

/-- What is read of a device's final memory. -/
def fq (d : Dev nD) (s' : Phys nD τ sig (Elt F)) : Prop :=
  s'.mem.mem ((SparseCore.T d).loc main_v7) = result (outAt (table m d))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

omit [FloatOps F] [Named F] in
/-- A buffer held whole is what memory holds there. -/
theorem held_read (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- The final state agrees with what the TensorCore holds at the end. -/
theorem hfin (d : Dev nD) (s' : Phys nD τ sig (Elt F)) : iprop(FIN m d ∗ SI s') ⊢ (⌜fq m d s'⌝ : sProp 𝕄) := by
  iintro ⟨⟨H0, H1, H2, H7⟩, HSI⟩
  ihave H := (held_read s' _ _) $$ [H0 HSI]
  · isplitl [H0] <;> iassumption
  icases H with ⟨%h0, HSI⟩
  ihave H := (held_read s' _ _) $$ [H1 HSI]
  · isplitl [H1] <;> iassumption
  icases H with ⟨%h1, HSI⟩
  ihave H := (held_read s' _ _) $$ [H2 HSI]
  · isplitl [H2] <;> iassumption
  icases H with ⟨%h2, HSI⟩
  ihave H := (held_read s' _ _) $$ [H7 HSI]
  · isplitl [H7] <;> iassumption
  icases H with ⟨%h7, -⟩
  ipureintro; exact ⟨h7, h0, h1, h2⟩

/-- What every run of the program ends in: on each device the result, the arguments unchanged, every semaphore at zero. -/
def Ends : PUnit × MemSt nD τ sig (Elt F) → Prop := fun r =>
  (∀ c : Dev nD, r.2.mem ((SparseCore.T c).loc main_v7) = result (outAt (table m c))
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)) ∧ r.2.sem = fun _ => 0

/-- The program's run, over any floats. -/
theorem run_main [∀ e, Nonempty (Elt F e)] : θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (table m) (out0 m)) (A := ∅) facts v₀
    (fun q hq => match q with | 0 => nomatch hq)
    (fun q _ => match q with | 0 => tileObl (table m) (out0 m) facts)
    (fun q _ => match q with | 0 => SparseCore.Cfg.VecSplit.of_plain (vecSplit (table m) (out0 m)))
    m ρ main (G (F := F)) (FIN m) (u₀ (F := F)) (sep_elim_left.trans (hu₀ m)) (hmain m ρ) (fq m) (hfin m) (Ends m) (fun _ h hz => ⟨h, hz⟩)

end Run

end Cert.Proof.Group

end
-- ==== Proof.Frames.lean ====
/-
  The three programs leave their arguments and their counters as they found them, and the idealization is sound.
  The printed kernel's run is the idealized program's over words, its named constants read as the words they were
  printed for.
-/
module

public import proofs.«01_k».proof.Proof.Main
public import proofs.«01_k».proof.Proof.Gen.Kernel
public import proofs.«01_k».proof.Proof.Gen.ReferenceIdeal.Run
public import Idealize.ShloMosaic.Lib.Quiescent

@[expose] public section

noncomputable section

namespace Cert.Proof.Group

open Idealize.ShloMosaic Idealize.SL.Sem

/-- Over words a named constant is the word it was printed for. -/
local instance namedBits : Named Bits where
  named _ _ {φ} b := FloatOps.ofBits φ b

set_option maxRecDepth 100000 in
/-- The two programs' kernels are the same over words. -/
theorem bodies_eq : Cert.Kernel.defs₀ (F := Bits) = Cert.KernelIdeal.defs₀ (F := Bits) := by
  funext p ℓ a
  have hℓ : ∀ ℓ : Fin 2, ℓ = 0 ∨ ℓ = 1 := by decide
  cases p <;> rcases hℓ ℓ with h | h <;> subst h <;> rfl

set_option maxRecDepth 100000 in
/-- Their threads' programs are the same over words. -/
theorem threads_eq : Cert.Kernel.threads (F := Bits) = Cert.KernelIdeal.threads (F := Bits) := rfl

set_option maxRecDepth 100000 in
/-- Their body tables are the same over words. -/
theorem defs_eq : Cert.Kernel.defs (F := Bits) = Cert.KernelIdeal.defs (F := Bits) := by
  show SparseCore.Cfg.defs (Cert.KernelIdeal.sc (F := Bits)) (Pipeline.defs (Cert.KernelIdeal.pcfgs (F := Bits)) (Cert.Kernel.defs₀ (F := Bits))) = _
  rw [bodies_eq]; rfl

set_option maxRecDepth 100000 in
/-- The printed kernel, over words, leaves its arguments unchanged and every counter at zero. -/
theorem frame_kernel : Cert.quiescent_Kernel := by
  intro m ρ _
  rw [threads_eq, defs_eq]
  exact (θ_run (Cert.KernelIdeal.defs (F := Bits)) (Cert.KernelIdeal.threads (F := Bits)) _).mono (fun _ h => ⟨fun c => (h.1 c).2, h.2⟩) (run_main (F := Bits) m ρ)

/-- The idealized kernel, over the extended reals, leaves its arguments unchanged and every counter at zero. -/
theorem frame_ideal : Cert.quiescent_KernelIdeal := fun m ρ _ =>
  (θ_run (Cert.KernelIdeal.defs (F := Ideal)) (Cert.KernelIdeal.threads (F := Ideal)) _).mono (fun _ h => ⟨fun c => (h.1 c).2, h.2⟩) (run_main (F := Ideal) m ρ)

/-- The reference leaves its arguments unchanged; it has no counter. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- Each named constant is the reciprocal its words were printed for. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

end Cert.Proof.Group

end
-- ==== Proof.Table.lean ====
/-
  The table of logits that the pipeline leaves, entry by entry, in terms of the program's arguments.
-/
module

public import proofs.«01_k».proof.Proof.Main
public import Idealize.ShloMosaic.Lib.Pipeline.ValueKit
public import Idealize.ShloMosaic.Lib.Pointwise

@[expose] public section

set_option maxRecDepth 16384

noncomputable section

namespace Cert.Proof.Group

open Cert.KernelIdeal Cert.KernelIdeal.Gen

open Idealize.ShloMosaic
open Idealize.ShloMosaic.Pipeline
open Idealize.ShloMosaic.TcCoe

section Staged

variable {F : FTy → Type} [FloatOps F] [Named F]
variable (V : (d : Dev nD) → (b : Ref sig .tc) → Buf (Elt F) ((d : Thread nD τ).loc b))

/-- The pipeline's one point writes the whole table. -/
theorem logits_eq (d : Dev nD) : logits V d = k0_pay1 (stg0 V d) (stg1 V d) (stg2 V d) := by
  refine (dat V d).arrAt_eq_of_after_last 3 t0_0 (by decide +kernel) _ fun j => ?_
  blk_simp
  rfl

/-- The one point's blocks are the arrays' first. -/
theorem index0 : (∀ a, win0_0.index t0_0 a = 0) ∧ (∀ a, win0_1.index t0_0 a = 0) ∧ ∀ a, win0_2.index t0_0 a = 0 := by decide +kernel

/-- The staged inputs are the argument's. -/
theorem stg0_apply (d : Dev nD) (j : S256x2048.Idx) : stg0 V d j = V d main_arg0 j := by
  show V d main_arg0 _ = _
  blk_ext [index0.1 0, index0.1 1]

/-- The staged weights are the first 512 columns of the argument's. -/
theorem stg1_apply (d : Dev nD) (k : Fin 2048) (r : Fin 512) :
    stg1 V d (ix2 k r) = V d main_arg1 (ix2 k ⟨r.val, by omega⟩) := by
  have h : (cfg0.win 1).moved (grid0.coords t0_0) (ix2 k r) = true :=
    ((cfg0.win 1).moved_iff _ _).mpr fun a => by
      unfold Window.xsize
      rw [show (cfg0.win 1).clip (grid0.coords t0_0) a = none from (show ∀ a, win0_1.clip (grid0.coords t0_0) a = none by decide +kernel) a]
      exact (ix2 k r a).isLt
  unfold stg1 Window.fill
  rw [dif_pos h]
  show V d main_arg1 _ = _
  blk_ext [index0.2.1 0, index0.2.1 1]

/-- The staged bias row is the row. -/
theorem stg2_apply (d : Dev nD) (j : S1x512.Idx) : stg2 V d j = V d main_v1 j := by
  show V d main_v1 _ = _
  blk_ext [index0.2.2 0, index0.2.2 1]

end Staged

/-! ## At the extended reals -/

/-- The score of row `i` of the inputs for class `c`: the row times the class's weights, plus its bias. -/
def score (x : S256x2048.Idx → EReal) (W : S2048x1000.Idx → EReal) (b : S1000.Idx → EReal) (i : Fin 256) (c : Fin 1000) : EReal :=
  (∑ k : Fin 2048, x (ix2 i k) * W (ix2 k c)) + b (ix1 c)

variable (m : (ℓ : Loc nD τ sig) → Buf (Elt Ideal) ℓ)

/-- The bias row holds the first 512 biases. -/
theorem biasRow_apply (d : Dev nD) (r : Fin 512) :
    (W1 m d (ref main_v1) : S1x512.Idx → EReal) (ix2 0 r) = (m ((d : Thread nD τ).loc main_arg2) : S1000.Idx → EReal) (ix1 ⟨r.val, by omega⟩) := by
  unfold W1 W0 opRow opBias
  rw [StableHlo.reshape_result, StableHlo.unary_result]
  pointwise

/-- The table's entry for class `r` and row `i` of the inputs is that score. -/
theorem table_apply (d : Dev nD) (r : Fin 512) (i : Fin 256) :
    table m d (ix2 r i) = score (m ((d : Thread nD τ).loc main_arg0)) (m ((d : Thread nD τ).loc main_arg1)) (m ((d : Thread nD τ).loc main_arg2)) i ⟨r.val, by omega⟩ := by
  unfold table
  rw [logits_eq]
  unfold k0_pay1
  pointwise
  unfold score
  refine congrArg₂ (· + ·) (Finset.sum_congr rfl fun k _ => ?_) ?_
  · rw [stg0_apply, stg1_apply]
    exact congrArg₂ (· * ·) (congrFun (W1_ne m d main_arg0 (by decide) (by decide)) _) (congrFun (W1_ne m d main_arg1 (by decide) (by decide)) _)
  · rw [stg2_apply]
    exact biasRow_apply m d r

end Cert.Proof.Group

end
-- ==== Proof.Consts.lean ====
/-
  The divisors of the reference's means and the one unnamed factor of the kernel's, as the reals they denote.
-/
module

public import Idealize.ShloMosaic.PureOps.Ideal

@[expose] public section

noncomputable section

namespace Cert.Proof.Group

open Idealize.ShloMosaic

/-- The word of each group's divisor, in the reference's order of the groups. -/
def sizeWord : Fin 9 → BitVec 32 :=
  ![0x42EC0000#32, 0x40A00000#32, 0x40400000#32, 0x40A00000#32, 0x41A80000#32, 0x41900000#32, 0x41100000#32, 0x40800000#32, 0x41A00000#32]

/-- Each group's number of classes. -/
def size : Fin 9 → ℕ := ![118, 5, 3, 5, 21, 18, 9, 4, 20]

/-- The divisors are the numbers of classes. -/
theorem sizeWord_eq (g : Fin 9) : Ideal.ofBits .f32 (sizeWord g) = ((size g : ℝ) : EReal) := by
  fin_cases g <;> simp [sizeWord, size, Ideal.ofBits, Ideal.ieee, -EReal.coe_mul] <;> norm_num

/-- The kernel's unnamed factor is a quarter. -/
theorem quarter_eq : Ideal.ofBits .f32 0x3E800000#32 = (((4 : ℝ)⁻¹ : ℝ) : EReal) := by
  simp [Ideal.ofBits, Ideal.ieee, -EReal.coe_mul]; norm_num

end Cert.Proof.Group

end
-- ==== Proof.Means.lean ====
/-
  What the two programs return, over the extended reals: the mean of the scores of each group of classes.
-/
module

public import proofs.«01_k».proof.Proof.Table
public import proofs.«01_k».proof.Proof.Consts
public import proofs.«01_k».proof.Proof.Gen.ReferenceIdeal.Run

@[expose] public section

set_option maxRecDepth 16384

noncomputable section

namespace Cert.Proof.Group

open Idealize.ShloMosaic
open Idealize.ShloMosaic.TcCoe

/-! ## The common value -/

/-- Each group's first class. -/
def first : Fin 9 → ℕ := ![151, 281, 30, 33, 80, 365, 389, 118, 300]

/-- Every group ends before class 398. -/
theorem first_add_size (g : Fin 9) : first g + size g ≤ 398 := by fin_cases g <;> decide

/-- The mean of group `g` of a row of scores: their sum, times the reciprocal of their number. -/
def groupMean (f : ℕ → EReal) (g : Fin 9) : EReal := (∑ k ∈ Finset.range (size g), f (first g + k)) * (((size g : ℝ)⁻¹ : ℝ) : EReal)

/-- The mean reads the group's classes only. -/
theorem groupMean_congr {f f' : ℕ → EReal} (g : Fin 9) (h : ∀ r < 512, f r = f' r) : groupMean f g = groupMean f' g := by
  unfold groupMean
  rw [Finset.sum_congr rfl fun k hk => h (first g + k) (by have := Finset.mem_range.mp hk; have := first_add_size g; omega)]

/-- A row's scores by the number of the class. -/
def scoreAt (x : (⟨2, ![256, 2048]⟩ : Shape).Idx → EReal) (W : (⟨2, ![2048, 1000]⟩ : Shape).Idx → EReal) (b : (⟨1, ![1000]⟩ : Shape).Idx → EReal)
    (i : Fin 256) (r : ℕ) : EReal := if h : r < 1000 then score x W b i ⟨r, h⟩ else 0

/-! ## The kernel -/

section Kernel

open Cert.KernelIdeal Cert.KernelIdeal.Gen

/-- A running sum is the sum of its terms. -/
theorem runSum_eq (f : ℕ → EReal) (a k n : ℕ) : runSum (F := Ideal) f a k n = ∑ i ∈ Finset.range n, f (a + k * i) := by
  induction n with
  | zero => exact Ideal.ofBits_zero_f32
  | succ n ih => rw [Finset.sum_range_succ, ← ih]; rfl

/-- A sum of `4 n` terms is that of four interleaved sums of `n`. -/
theorem sum_interleaved (f : ℕ → EReal) (a n : ℕ) : ∑ i ∈ Finset.range (4 * n), f (a + i)
    = ∑ i ∈ Finset.range n, f (a + 4 * i) + ∑ i ∈ Finset.range n, f (a + 1 + 4 * i) + ∑ i ∈ Finset.range n, f (a + 2 + 4 * i)
      + ∑ i ∈ Finset.range n, f (a + 3 + 4 * i) := by
  induction n with
  | zero => simp
  | succ n ih =>
    rw [show 4 * (n + 1) = 4 * n + 1 + 1 + 1 + 1 by ring]
    simp only [Finset.sum_range_succ, ih]
    rw [show a + (4 * n + 1) = a + 1 + 4 * n by ring, show a + (4 * n + 1 + 1) = a + 2 + 4 * n by ring,
      show a + (4 * n + 1 + 1 + 1) = a + 3 + 4 * n by ring]
    abel

/-- The large group's mean, its four partial sums put together. -/
theorem bigMean_eq (f : ℕ → EReal) : bigMean (F := Ideal) f = groupMean f 0 := by
  have hn : Named.named (F := Ideal) κ "r118" (φ := .f32) 0x3C0AD8F3#32 = (((118 : ℝ)⁻¹ : ℝ) : EReal) := IdealRules.named_const.ideal_named_scalar _ _ _ _ rfl
  have hs : ∑ k ∈ Finset.range 118, f (151 + k)
      = (runSum (F := Ideal) f 152 4 30 + runSum (F := Ideal) f 153 4 29) + (runSum (F := Ideal) f 154 4 29 + runSum (F := Ideal) f 151 4 30) := by
    simp only [runSum_eq]
    rw [show (118 : ℕ) = 4 * 29 + 1 + 1 from rfl, Finset.sum_range_succ, Finset.sum_range_succ, sum_interleaved,
      Finset.sum_range_succ (n := 29), Finset.sum_range_succ (n := 29)]
    abel
  unfold bigMean groupMean
  rw [hn]
  exact congrArg₂ (· * ·) hs.symm (by norm_num [size])

/-- A small group's mean. -/
theorem smallMean_eq (f : ℕ → EReal) (a n : ℕ) (c : EReal) (h : c = (((n : ℝ)⁻¹ : ℝ) : EReal)) :
    smallMean (F := Ideal) f a n c = (∑ k ∈ Finset.range n, f (a + k)) * (((n : ℝ)⁻¹ : ℝ) : EReal) := by
  unfold smallMean
  rw [runSum_eq, h]
  simp only [one_mul]
  rfl

/-- The row of the written array that holds each group's mean. -/
def rowOf : Fin 9 → Fin 16 := ![0, 8, 9, 10, 11, 12, 13, 14, 15]

/-- Each kept row of the written array holds its group's mean. -/
theorem outRow_eq (f : ℕ → EReal) (g : Fin 9) : outRow (F := Ideal) f (rowOf g).val = groupMean f g := by
  have named {n : ℕ} {s : String} {b : BitVec 32} (h : κ s = some (((n : ℝ)⁻¹ : ℝ) : EReal)) :
      Named.named (F := Ideal) κ s (φ := .f32) b = (((n : ℝ)⁻¹ : ℝ) : EReal) := IdealRules.named_const.ideal_named_scalar _ _ _ _ h
  fin_cases g
  · exact bigMean_eq f
  all_goals refine smallMean_eq f _ _ _ ?_
  all_goals first
    | exact named (by norm_num [κ])
    | exact quarter_eq.trans (by norm_num)

/-- The kernel's result reads, for each group, its row of the written array. -/
theorem result_apply (f : S16x256.Idx → EReal) (i : Fin 256) (g : Fin 9) : result (F := Ideal) f (ix2 i g) = f (ix2 (rowOf g) i) := by
  unfold result
  fin_cases g <;> pointwise <;> rfl

variable (m : (ℓ : Loc nD τ sig) → Buf (Elt Ideal) ℓ)

/-- The kernel's result is the groups' means. -/
theorem kernel_value (d : Dev nD) (i : Fin 256) (g : Fin 9) : result (F := Ideal) (outAt (table m d)) (ix2 i g)
    = groupMean (scoreAt (m ((d : Thread nD τ).loc main_arg0)) (m ((d : Thread nD τ).loc main_arg1)) (m ((d : Thread nD τ).loc main_arg2)) i) g := by
  rw [result_apply]
  refine (outRow_eq (colAt (table m d) i) g).trans (groupMean_congr g fun r hr => ?_)
  unfold colAt scoreAt
  rw [dif_pos hr, dif_pos (by omega)]
  refine Eq.trans (congrArg (table m d) ?_) (table_apply m d ⟨r, hr⟩ i)
  funext a; fin_cases a <;> rfl

end Kernel

/-! ## The reference -/

section Reference

open Cert.ReferenceIdeal Cert.ReferenceIdeal.Gen Cert.ReferenceIdeal.Value

variable (m : (ℓ : Loc nD τ sig) → Buf (Elt Ideal) ℓ)

/-- A quotient of a sum over a group by the number of its classes is the group's mean. -/
theorem div_size (x : S256x2048.Idx → EReal) (W : S2048x1000.Idx → EReal) (b : S1000.Idx → EReal) (i : Fin 256) (g : Fin 9)
    (h : ∀ k : Fin (size g), first g + k.val < 1000) :
    Ideal.div (∑ k : Fin (size g), ((∑ l : Fin 2048, x (ix2 i l) * W (ix2 l ⟨first g + k.val, h k⟩)) + b (ix1 ⟨first g + k.val, h k⟩)))
      (Ideal.ofBits .f32 (sizeWord g)) = groupMean (scoreAt x W b i) g := by
  rw [sizeWord_eq, Ideal.div_coe (by fin_cases g <;> norm_num [size]), one_div]
  unfold groupMean
  rw [Finset.sum_range]
  refine congrArg (· * _) (Finset.sum_congr rfl fun k _ => ?_)
  unfold scoreAt
  rw [dif_pos (h k)]
  rfl

/-- The reference's result is the groups' means. -/
theorem reference_value (c : Dev nD) (i : Fin 256) (g : Fin 9) : (res_out0 m c : S256x9.Idx → EReal) (ix2 i g)
    = groupMean (scoreAt (m ((c.tc : Thread nD τ).loc main_arg0)) (m ((c.tc : Thread nD τ).loc main_arg1)) (m ((c.tc : Thread nD τ).loc main_arg2)) i) g := by
  have h : ∀ k : Fin (size g), first g + k.val < 1000 := fun k => by have := first_add_size g; omega
  refine Eq.trans ?_ (div_size _ _ _ i g h)
  unfold res_out0 res_main_v49
  fin_cases g <;> pointwise <;> rfl

end Reference

end Cert.Proof.Group

end
-- ==== Proof.Agree.lean ====
/-
  The kernel and the reference return the same array, over the extended reals.
-/
module

public import proofs.«01_k».proof.Proof.Means

@[expose] public section

set_option maxRecDepth 16384

noncomputable section

namespace Cert.Proof.Group

open Idealize.ShloMosaic Idealize.SL.Sem
open Idealize.ShloMosaic.TcCoe

/-- From arguments that agree, the kernel's result is the reference's: each entry is the mean of a group's scores. -/
theorem algebraic : Cert.algebraic_KernelIdeal_ReferenceIdeal := by
  intro m ρ m' ρ' _ hagree
  refine ⟨fun c => result (F := Ideal) (outAt (table m c)),
    (θ_run (Cert.KernelIdeal.defs (F := Ideal)) (Cert.KernelIdeal.threads (F := Ideal)) _).mono (fun _ h => h.1) (run_main (F := Ideal) m ρ), ?_⟩
  refine (θ_run (Cert.ReferenceIdeal.defs (F := Ideal)) _ _).mono (fun _ h c => ⟨(h c).1.trans ?_, (h c).2⟩)
    (Cert.ReferenceIdeal.Value.run (F := Ideal) m' ρ')
  funext j
  obtain ⟨i, g, rfl⟩ : ∃ (i : Fin 256) (g : Fin 9), j = ix2 i g := ⟨j 0, j 1, eq_ix2 j⟩
  refine (reference_value m' c i g).trans (Eq.trans ?_ (kernel_value m c i g).symm)
  exact congrArg (fun s => groupMean s g) (congrFun (congr (congrArg₂ scoreAt (hagree c).1 (hagree c).2.1) (hagree c).2.2) i)

end Cert.Proof.Group

end
-- ==== Proof.lean ====
/-
  The certificate's claim, assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Group.frame_kernel, Group.frame_ideal, Group.frame_reference, Group.preserves, Group.algebraic⟩

end Cert.Proof

end
